-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 4096]⟩ ⟨2, ![1024, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096 : Shape := ⟨2, ![32, 4096]⟩
abbrev S4096x256 : Shape := ⟨2, ![4096, 256]⟩
abbrev S1 : Shape := ⟨1, ![1]⟩
abbrev S32 : Shape := ⟨1, ![32]⟩
abbrev S16x32 : Shape := ⟨2, ![16, 32]⟩
abbrev S15x32 : Shape := ⟨2, ![15, 32]⟩
abbrev S_ : Shape := ⟨0, ![]⟩
abbrev S2 : Shape := ⟨1, ![2]⟩
abbrev S16x1 : Shape := ⟨2, ![16, 1]⟩
abbrev S16 : Shape := ⟨1, ![16]⟩
abbrev S15x1 : Shape := ⟨2, ![15, 1]⟩
abbrev S15 : Shape := ⟨1, ![15]⟩
abbrev S2x32x4096 : Shape := ⟨3, ![2, 32, 4096]⟩
abbrev S1x32x4096 : Shape := ⟨3, ![1, 32, 4096]⟩
abbrev S128x4096 : Shape := ⟨2, ![128, 4096]⟩
abbrev S128x256 : Shape := ⟨2, ![128, 256]⟩

abbrev nBuf : Space → Nat
  | .hbm => 62
  | .vmem => 5
  | .smem => 5
  | _ => 0

abbrev bufTy : (tb : Table) → Fin (tcTables nBuf tb) → BufTy
  | .hbm, ⟨0, _⟩ => ⟨S32x4096, .i32⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S16x32, .i32⟩
  | .hbm, ⟨7, _⟩ => ⟨S15x32, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S2, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S16x1, .i32⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S15x1, .i32⟩
  | .hbm, ⟨60, _⟩ => ⟨S15, .i32⟩
  | .hbm, ⟨61, _⟩ => ⟨S4096x256, .f32⟩
  | .local _ .vmem, ⟨0, _⟩ => ⟨S32x4096, .i32⟩
  | .local _ .vmem, ⟨1, _⟩ => ⟨S4096x256, .fp8e5m2⟩
  | .local _ .vmem, ⟨2, _⟩ => ⟨S4096x256, .f32⟩
  | .local _ .vmem, ⟨3, _⟩ => ⟨S2x32x4096, .i32⟩
  | .local _ .vmem, ⟨4, _⟩ => ⟨S2x32x4096, .i32⟩
  | .local _ .smem, ⟨0, _⟩ => ⟨S1, .f32⟩
  | .local _ .smem, ⟨1, _⟩ => ⟨S1, .f32⟩
  | .local _ .smem, ⟨2, _⟩ => ⟨S2, .i32⟩
  | .local _ .smem, ⟨3, _⟩ => ⟨S16, .i32⟩
  | .local _ .smem, ⟨4, _⟩ => ⟨S15, .i32⟩
  | _, _ => ⟨S32x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_c_6 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_7 : Ref sig .tc := ⟨.hbm, 21, rfl⟩
abbrev main_v10 : Ref sig .tc := ⟨.hbm, 22, rfl⟩
abbrev main_c_8 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_9 : Ref sig .tc := ⟨.hbm, 31, rfl⟩
abbrev main_c_10 : Ref sig .tc := ⟨.hbm, 32, rfl⟩
abbrev main_v18 : Ref sig .tc := ⟨.hbm, 33, rfl⟩
abbrev main_c_11 : Ref sig .tc := ⟨.hbm, 34, rfl⟩
abbrev main_c_12 : Ref sig .tc := ⟨.hbm, 35, rfl⟩
abbrev main_v19 : Ref sig .tc := ⟨.hbm, 36, rfl⟩
abbrev main_c_13 : Ref sig .tc := ⟨.hbm, 37, rfl⟩
abbrev main_v20 : Ref sig .tc := ⟨.hbm, 38, rfl⟩
abbrev main_c_14 : Ref sig .tc := ⟨.hbm, 39, rfl⟩
abbrev main_v21 : Ref sig .tc := ⟨.hbm, 40, rfl⟩
abbrev main_c_15 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_16 : Ref sig .tc := ⟨.hbm, 46, rfl⟩
abbrev main_c_17 : Ref sig .tc := ⟨.hbm, 47, rfl⟩
abbrev main_v26 : Ref sig .tc := ⟨.hbm, 48, rfl⟩
abbrev main_c_18 : Ref sig .tc := ⟨.hbm, 49, rfl⟩
abbrev main_c_19 : Ref sig .tc := ⟨.hbm, 50, rfl⟩
abbrev main_v27 : Ref sig .tc := ⟨.hbm, 51, rfl⟩
abbrev main_c_20 : Ref sig .tc := ⟨.hbm, 52, rfl⟩
abbrev main_v28 : Ref sig .tc := ⟨.hbm, 53, rfl⟩
abbrev main_c_21 : Ref sig .tc := ⟨.hbm, 54, rfl⟩
abbrev main_v29 : Ref sig .tc := ⟨.hbm, 55, rfl⟩
abbrev main_c_22 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v41 : BitVec 32 := Scalar.muli v2 c128_i32
  let v42 : Index := Scalar.indexCast v41
  let c0_25 : Index := 0#32
  ![v42.toNat, 0]
def k0_dev3 (v3 : BitVec 32) : Nat :=
  let c0_i32_31 : BitVec 32 := 0#32
  let c1_i32_30 : BitVec 32 := 1#32
  let v44 : BitVec 32 := Scalar.muli v3 c1_i32_30
  let v45 : BitVec 32 := Scalar.addi c0_i32_31 v44
  v45.toNat
def k0_dev4 (v4 : BitVec 32) : Nat :=
  let c0_i32_60 : BitVec 32 := 0#32
  let c1_i32_59 : BitVec 32 := 1#32
  let v68 : BitVec 32 := Scalar.muli v4 c1_i32_59
  let v69 : BitVec 32 := Scalar.addi c0_i32_60 v68
  v69.toNat
def k0_off2 (v80 : BitVec 32) : Fin 2 → Nat :=
  let c128_i32_76 : BitVec 32 := 128#32
  let v97 : BitVec 32 := Scalar.muli v80 c128_i32_76
  let v98 : Index := Scalar.indexCast v97
  let c0_77 : Index := 0#32
  ![v98.toNat, 0]

def k0_chk3 (v80 : BitVec 32) : Prop :=
  (∀ a, (k0_off2 v80) a + S128x256.size a ≤ S4096x256.size a)
theorem k0_off2_inb : ∀ (v80 : BitVec 32) (k0_hw3 : k0_chk3 v80), ∀ a, (k0_off2 v80) a + S128x256.size a ≤ S4096x256.size a := fun v80 k0_hw3 => k0_hw3

def k0_off3 (v116 : BitVec 32) : Fin 2 → Nat :=
  let c128_i32_108 : BitVec 32 := 128#32
  let v133 : BitVec 32 := Scalar.muli v116 c128_i32_108
  let v134 : Index := Scalar.indexCast v133
  let c0_109 : Index := 0#32
  ![v134.toNat, 0]

def k0_chk4 (v116 : BitVec 32) : Prop :=
  (∀ a, (k0_off3 v116) a + S128x256.size a ≤ S4096x256.size a)
theorem k0_off3_inb : ∀ (v116 : BitVec 32) (k0_hw4 : k0_chk4 v116), ∀ a, (k0_off3 v116) a + S128x256.size a ≤ S4096x256.size a := fun v116 k0_hw4 => k0_hw4

def k0_dev5 (v3 : BitVec 32) : Nat :=
  let c0_i32_115 : BitVec 32 := 0#32
  let c1_i32_114 : BitVec 32 := 1#32
  let v136 : BitVec 32 := Scalar.muli v3 c1_i32_114
  let v137 : BitVec 32 := Scalar.addi c0_i32_115 v136
  v137.toNat
def k0_dev6 (v4 : BitVec 32) : Nat :=
  let c0_i32_144 : BitVec 32 := 0#32
  let c1_i32_143 : BitVec 32 := 1#32
  let v160 : BitVec 32 := Scalar.muli v4 c1_i32_143
  let v161 : BitVec 32 := Scalar.addi c0_i32_144 v160
  v161.toNat
def k0_off4 (v172 : BitVec 32) : Fin 2 → Nat :=
  let c128_i32_160 : BitVec 32 := 128#32
  let v189 : BitVec 32 := Scalar.muli v172 c128_i32_160
  let v190 : Index := Scalar.indexCast v189
  let c0_161 : Index := 0#32
  ![v190.toNat, 0]

def k0_chk5 (v172 : BitVec 32) : Prop :=
  (∀ a, (k0_off4 v172) a + S128x256.size a ≤ S4096x256.size a)
theorem k0_off4_inb : ∀ (v172 : BitVec 32) (k0_hw5 : k0_chk5 v172), ∀ a, (k0_off4 v172) a + S128x256.size a ≤ S4096x256.size a := fun v172 k0_hw5 => k0_hw5

def k0_off5 (v208 : BitVec 32) : Fin 2 → Nat :=
  let c128_i32_192 : BitVec 32 := 128#32
  let v225 : BitVec 32 := Scalar.muli v208 c128_i32_192
  let v226 : Index := Scalar.indexCast v225
  let c0_193 : Index := 0#32
  ![v226.toNat, 0]

def k0_chk6 (v208 : BitVec 32) : Prop :=
  (∀ a, (k0_off5 v208) a + S128x256.size a ≤ S4096x256.size a)
theorem k0_off5_inb : ∀ (v208 : BitVec 32) (k0_hw6 : k0_chk6 v208), ∀ a, (k0_off5 v208) a + S128x256.size a ≤ S4096x256.size a := fun v208 k0_hw6 => k0_hw6

def k0_dev7 (v3 : BitVec 32) : Nat :=
  let c0_i32_199 : BitVec 32 := 0#32
  let c1_i32_198 : BitVec 32 := 1#32
  let v228 : BitVec 32 := Scalar.muli v3 c1_i32_198
  let v229 : BitVec 32 := Scalar.addi c0_i32_199 v228
  v229.toNat
def k0_dev8 (v4 : BitVec 32) : Nat :=
  let c0_i32_228 : BitVec 32 := 0#32
  let c1_i32_227 : BitVec 32 := 1#32
  let v252 : BitVec 32 := Scalar.muli v4 c1_i32_227
  let v253 : BitVec 32 := Scalar.addi c0_i32_228 v252
  v253.toNat
def k0_off6 (v264 : BitVec 32) : Fin 2 → Nat :=
  let c128_i32_243 : BitVec 32 := 128#32
  let v281 : BitVec 32 := Scalar.muli v264 c128_i32_243
  let v282 : Index := Scalar.indexCast v281
  let c0_244 : Index := 0#32
  ![v282.toNat, 0]

def k0_chk7 (v264 : BitVec 32) : Prop :=
  (∀ a, (k0_off6 v264) a + S128x256.size a ≤ S4096x256.size a)
theorem k0_off6_inb : ∀ (v264 : BitVec 32) (k0_hw7 : k0_chk7 v264), ∀ a, (k0_off6 v264) a + S128x256.size a ≤ S4096x256.size a := fun v264 k0_hw7 => k0_hw7

def k0_off7 (v300 : BitVec 32) : Fin 2 → Nat :=
  let c128_i32_275 : BitVec 32 := 128#32
  let v317 : BitVec 32 := Scalar.muli v300 c128_i32_275
  let v318 : Index := Scalar.indexCast v317
  let c0_276 : Index := 0#32
  ![v318.toNat, 0]

def k0_chk8 (v300 : BitVec 32) : Prop :=
  (∀ a, (k0_off7 v300) a + S128x256.size a ≤ S4096x256.size a)
theorem k0_off7_inb : ∀ (v300 : BitVec 32) (k0_hw8 : k0_chk8 v300), ∀ a, (k0_off7 v300) a + S128x256.size a ≤ S4096x256.size a := fun v300 k0_hw8 => k0_hw8

def k0_dev9 (v3 : BitVec 32) : Nat :=
  let c0_i32_282 : BitVec 32 := 0#32
  let c1_i32_281 : BitVec 32 := 1#32
  let v320 : BitVec 32 := Scalar.muli v3 c1_i32_281
  let v321 : BitVec 32 := Scalar.addi c0_i32_282 v320
  v321.toNat
def k0_dev10 (v4 : BitVec 32) : Nat :=
  let c0_i32_311 : BitVec 32 := 0#32
  let c1_i32_310 : BitVec 32 := 1#32
  let v344 : BitVec 32 := Scalar.muli v4 c1_i32_310
  let v345 : BitVec 32 := Scalar.addi c0_i32_311 v344
  v345.toNat
def k0_off8 (v356 : BitVec 32) : Fin 2 → Nat :=
  let c128_i32_326 : BitVec 32 := 128#32
  let v373 : BitVec 32 := Scalar.muli v356 c128_i32_326
  let v374 : Index := Scalar.indexCast v373
  let c0_327 : Index := 0#32
  ![v374.toNat, 0]

def k0_chk9 (v356 : BitVec 32) : Prop :=
  (∀ a, (k0_off8 v356) a + S128x256.size a ≤ S4096x256.size a)
theorem k0_off8_inb : ∀ (v356 : BitVec 32) (k0_hw9 : k0_chk9 v356), ∀ a, (k0_off8 v356) a + S128x256.size a ≤ S4096x256.size a := fun v356 k0_hw9 => k0_hw9

def k0_off9 (v392 : BitVec 32) : Fin 2 → Nat :=
  let c128_i32_358 : BitVec 32 := 128#32
  let v409 : BitVec 32 := Scalar.muli v392 c128_i32_358
  let v410 : Index := Scalar.indexCast v409
  let c0_359 : Index := 0#32
  ![v410.toNat, 0]

def k0_chk10 (v392 : BitVec 32) : Prop :=
  (∀ a, (k0_off9 v392) a + S128x256.size a ≤ S4096x256.size a)
theorem k0_off9_inb : ∀ (v392 : BitVec 32) (k0_hw10 : k0_chk10 v392), ∀ a, (k0_off9 v392) a + S128x256.size a ≤ S4096x256.size a := fun v392 k0_hw10 => k0_hw10

def k0_dev11 (v3 : BitVec 32) : Nat :=
  let c0_i32_365 : BitVec 32 := 0#32
  let c1_i32_364 : BitVec 32 := 1#32
  let v412 : BitVec 32 := Scalar.muli v3 c1_i32_364
  let v413 : BitVec 32 := Scalar.addi c0_i32_365 v412
  v413.toNat
def k0_dev12 (v4 : BitVec 32) : Nat :=
  let c0_i32_394 : BitVec 32 := 0#32
  let c1_i32_393 : BitVec 32 := 1#32
  let v436 : BitVec 32 := Scalar.muli v4 c1_i32_393
  let v437 : BitVec 32 := Scalar.addi c0_i32_394 v436
  v437.toNat
def k0_off10 (v448 : BitVec 32) : Fin 2 → Nat :=
  let c128_i32_409 : BitVec 32 := 128#32
  let v465 : BitVec 32 := Scalar.muli v448 c128_i32_409
  let v466 : Index := Scalar.indexCast v465
  let c0_410 : Index := 0#32
  ![v466.toNat, 0]

def k0_chk11 (v448 : BitVec 32) : Prop :=
  (∀ a, (k0_off10 v448) a + S128x256.size a ≤ S4096x256.size a)
theorem k0_off10_inb : ∀ (v448 : BitVec 32) (k0_hw11 : k0_chk11 v448), ∀ a, (k0_off10 v448) a + S128x256.size a ≤ S4096x256.size a := fun v448 k0_hw11 => k0_hw11

def k0_off11 (v484 : BitVec 32) : Fin 2 → Nat :=
  let c128_i32_441 : BitVec 32 := 128#32
  let v501 : BitVec 32 := Scalar.muli v484 c128_i32_441
  let v502 : Index := Scalar.indexCast v501
  let c0_442 : Index := 0#32
  ![v502.toNat, 0]

def k0_chk12 (v484 : BitVec 32) : Prop :=
  (∀ a, (k0_off11 v484) a + S128x256.size a ≤ S4096x256.size a)
theorem k0_off11_inb : ∀ (v484 : BitVec 32) (k0_hw12 : k0_chk12 v484), ∀ a, (k0_off11 v484) a + S128x256.size a ≤ S4096x256.size a := fun v484 k0_hw12 => k0_hw12

def k0_dev13 (v3 : BitVec 32) : Nat :=
  let c0_i32_448 : BitVec 32 := 0#32
  let c1_i32_447 : BitVec 32 := 1#32
  let v504 : BitVec 32 := Scalar.muli v3 c1_i32_447
  let v505 : BitVec 32 := Scalar.addi c0_i32_448 v504
  v505.toNat
def k0_dev14 (v4 : BitVec 32) : Nat :=
  let c0_i32_477 : BitVec 32 := 0#32
  let c1_i32_476 : BitVec 32 := 1#32
  let v528 : BitVec 32 := Scalar.muli v4 c1_i32_476
  let v529 : BitVec 32 := Scalar.addi c0_i32_477 v528
  v529.toNat
def k0_off12 (v540 : BitVec 32) : Fin 2 → Nat :=
  let c128_i32_492 : BitVec 32 := 128#32
  let v557 : BitVec 32 := Scalar.muli v540 c128_i32_492
  let v558 : Index := Scalar.indexCast v557
  let c0_493 : Index := 0#32
  ![v558.toNat, 0]

def k0_chk13 (v540 : BitVec 32) : Prop :=
  (∀ a, (k0_off12 v540) a + S128x256.size a ≤ S4096x256.size a)
theorem k0_off12_inb : ∀ (v540 : BitVec 32) (k0_hw13 : k0_chk13 v540), ∀ a, (k0_off12 v540) a + S128x256.size a ≤ S4096x256.size a := fun v540 k0_hw13 => k0_hw13

def k0_off13 (v576 : BitVec 32) : Fin 2 → Nat :=
  let c128_i32_524 : BitVec 32 := 128#32
  let v593 : BitVec 32 := Scalar.muli v576 c128_i32_524
  let v594 : Index := Scalar.indexCast v593
  let c0_525 : Index := 0#32
  ![v594.toNat, 0]

def k0_chk14 (v576 : BitVec 32) : Prop :=
  (∀ a, (k0_off13 v576) a + S128x256.size a ≤ S4096x256.size a)
theorem k0_off13_inb : ∀ (v576 : BitVec 32) (k0_hw14 : k0_chk14 v576), ∀ a, (k0_off13 v576) a + S128x256.size a ≤ S4096x256.size a := fun v576 k0_hw14 => k0_hw14

def k0_dev15 (v3 : BitVec 32) : Nat :=
  let c0_i32_531 : BitVec 32 := 0#32
  let c1_i32_530 : BitVec 32 := 1#32
  let v596 : BitVec 32 := Scalar.muli v3 c1_i32_530
  let v597 : BitVec 32 := Scalar.addi c0_i32_531 v596
  v597.toNat
def k0_dev16 (v4 : BitVec 32) : Nat :=
  let c0_i32_560 : BitVec 32 := 0#32
  let c1_i32_559 : BitVec 32 := 1#32
  let v620 : BitVec 32 := Scalar.muli v4 c1_i32_559
  let v621 : BitVec 32 := Scalar.addi c0_i32_560 v620
  v621.toNat
def k0_off14 (v632 : BitVec 32) : Fin 2 → Nat :=
  let c128_i32_575 : BitVec 32 := 128#32
  let v649 : BitVec 32 := Scalar.muli v632 c128_i32_575
  let v650 : Index := Scalar.indexCast v649
  let c0_576 : Index := 0#32
  ![v650.toNat, 0]

def k0_chk15 (v632 : BitVec 32) : Prop :=
  (∀ a, (k0_off14 v632) a + S128x256.size a ≤ S4096x256.size a)
theorem k0_off14_inb : ∀ (v632 : BitVec 32) (k0_hw15 : k0_chk15 v632), ∀ a, (k0_off14 v632) a + S128x256.size a ≤ S4096x256.size a := fun v632 k0_hw15 => k0_hw15

def k0_off15 (v668 : BitVec 32) : Fin 2 → Nat :=
  let c128_i32_607 : BitVec 32 := 128#32
  let v685 : BitVec 32 := Scalar.muli v668 c128_i32_607
  let v686 : Index := Scalar.indexCast v685
  let c0_608 : Index := 0#32
  ![v686.toNat, 0]

def k0_chk16 (v668 : BitVec 32) : Prop :=
  (∀ a, (k0_off15 v668) a + S128x256.size a ≤ S4096x256.size a)
theorem k0_off15_inb : ∀ (v668 : BitVec 32) (k0_hw16 : k0_chk16 v668), ∀ a, (k0_off15 v668) a + S128x256.size a ≤ S4096x256.size a := fun v668 k0_hw16 => k0_hw16

def k0_dev17 (v3 : BitVec 32) : Nat :=
  let c0_i32_614 : BitVec 32 := 0#32
  let c1_i32_613 : BitVec 32 := 1#32
  let v688 : BitVec 32 := Scalar.muli v3 c1_i32_613
  let v689 : BitVec 32 := Scalar.addi c0_i32_614 v688
  v689.toNat
def k0_dev18 (v4 : BitVec 32) : Nat :=
  let c0_i32_643 : BitVec 32 := 0#32
  let c1_i32_642 : BitVec 32 := 1#32
  let v712 : BitVec 32 := Scalar.muli v4 c1_i32_642
  let v713 : BitVec 32 := Scalar.addi c0_i32_643 v712
  v713.toNat
def k0_off16 (v724 : BitVec 32) : Fin 2 → Nat :=
  let c128_i32_658 : BitVec 32 := 128#32
  let v741 : BitVec 32 := Scalar.muli v724 c128_i32_658
  let v742 : Index := Scalar.indexCast v741
  let c0_659 : Index := 0#32
  ![v742.toNat, 0]

def k0_chk17 (v724 : BitVec 32) : Prop :=
  (∀ a, (k0_off16 v724) a + S128x256.size a ≤ S4096x256.size a)
theorem k0_off16_inb : ∀ (v724 : BitVec 32) (k0_hw17 : k0_chk17 v724), ∀ a, (k0_off16 v724) a + S128x256.size a ≤ S4096x256.size a := fun v724 k0_hw17 => k0_hw17

def k0_off17 (v760 : BitVec 32) : Fin 2 → Nat :=
  let c128_i32_690 : BitVec 32 := 128#32
  let v777 : BitVec 32 := Scalar.muli v760 c128_i32_690
  let v778 : Index := Scalar.indexCast v777
  let c0_691 : Index := 0#32
  ![v778.toNat, 0]

def k0_chk18 (v760 : BitVec 32) : Prop :=
  (∀ a, (k0_off17 v760) a + S128x256.size a ≤ S4096x256.size a)
theorem k0_off17_inb : ∀ (v760 : BitVec 32) (k0_hw18 : k0_chk18 v760), ∀ a, (k0_off17 v760) a + S128x256.size a ≤ S4096x256.size a := fun v760 k0_hw18 => k0_hw18

def k0_dev19 (v3 : BitVec 32) : Nat :=
  let c0_i32_697 : BitVec 32 := 0#32
  let c1_i32_696 : BitVec 32 := 1#32
  let v780 : BitVec 32 := Scalar.muli v3 c1_i32_696
  let v781 : BitVec 32 := Scalar.addi c0_i32_697 v780
  v781.toNat
def k0_dev20 (v4 : BitVec 32) : Nat :=
  let c0_i32_726 : BitVec 32 := 0#32
  let c1_i32_725 : BitVec 32 := 1#32
  let v804 : BitVec 32 := Scalar.muli v4 c1_i32_725
  let v805 : BitVec 32 := Scalar.addi c0_i32_726 v804
  v805.toNat
def k0_off18 (v816 : BitVec 32) : Fin 2 → Nat :=
  let c128_i32_741 : BitVec 32 := 128#32
  let v833 : BitVec 32 := Scalar.muli v816 c128_i32_741
  let v834 : Index := Scalar.indexCast v833
  let c0_742 : Index := 0#32
  ![v834.toNat, 0]

def k0_chk19 (v816 : BitVec 32) : Prop :=
  (∀ a, (k0_off18 v816) a + S128x256.size a ≤ S4096x256.size a)
theorem k0_off18_inb : ∀ (v816 : BitVec 32) (k0_hw19 : k0_chk19 v816), ∀ a, (k0_off18 v816) a + S128x256.size a ≤ S4096x256.size a := fun v816 k0_hw19 => k0_hw19

def k0_off19 (v852 : BitVec 32) : Fin 2 → Nat :=
  let c128_i32_773 : BitVec 32 := 128#32
  let v869 : BitVec 32 := Scalar.muli v852 c128_i32_773
  let v870 : Index := Scalar.indexCast v869
  let c0_774 : Index := 0#32
  ![v870.toNat, 0]

def k0_chk20 (v852 : BitVec 32) : Prop :=
  (∀ a, (k0_off19 v852) a + S128x256.size a ≤ S4096x256.size a)
theorem k0_off19_inb : ∀ (v852 : BitVec 32) (k0_hw20 : k0_chk20 v852), ∀ a, (k0_off19 v852) a + S128x256.size a ≤ S4096x256.size a := fun v852 k0_hw20 => k0_hw20

def k0_dev21 (v3 : BitVec 32) : Nat :=
  let c0_i32_780 : BitVec 32 := 0#32
  let c1_i32_779 : BitVec 32 := 1#32
  let v872 : BitVec 32 := Scalar.muli v3 c1_i32_779
  let v873 : BitVec 32 := Scalar.addi c0_i32_780 v872
  v873.toNat
def k0_dev22 (v4 : BitVec 32) : Nat :=
  let c0_i32_809 : BitVec 32 := 0#32
  let c1_i32_808 : BitVec 32 := 1#32
  let v896 : BitVec 32 := Scalar.muli v4 c1_i32_808
  let v897 : BitVec 32 := Scalar.addi c0_i32_809 v896
  v897.toNat
def k0_off20 (v908 : BitVec 32) : Fin 2 → Nat :=
  let c128_i32_824 : BitVec 32 := 128#32
  let v925 : BitVec 32 := Scalar.muli v908 c128_i32_824
  let v926 : Index := Scalar.indexCast v925
  let c0_825 : Index := 0#32
  ![v926.toNat, 0]

def k0_chk21 (v908 : BitVec 32) : Prop :=
  (∀ a, (k0_off20 v908) a + S128x256.size a ≤ S4096x256.size a)
theorem k0_off20_inb : ∀ (v908 : BitVec 32) (k0_hw21 : k0_chk21 v908), ∀ a, (k0_off20 v908) a + S128x256.size a ≤ S4096x256.size a := fun v908 k0_hw21 => k0_hw21

def k0_off21 (v944 : BitVec 32) : Fin 2 → Nat :=
  let c128_i32_856 : BitVec 32 := 128#32
  let v961 : BitVec 32 := Scalar.muli v944 c128_i32_856
  let v962 : Index := Scalar.indexCast v961
  let c0_857 : Index := 0#32
  ![v962.toNat, 0]

def k0_chk22 (v944 : BitVec 32) : Prop :=
  (∀ a, (k0_off21 v944) a + S128x256.size a ≤ S4096x256.size a)
theorem k0_off21_inb : ∀ (v944 : BitVec 32) (k0_hw22 : k0_chk22 v944), ∀ a, (k0_off21 v944) a + S128x256.size a ≤ S4096x256.size a := fun v944 k0_hw22 => k0_hw22

def k0_dev23 (v3 : BitVec 32) : Nat :=
  let c0_i32_863 : BitVec 32 := 0#32
  let c1_i32_862 : BitVec 32 := 1#32
  let v964 : BitVec 32 := Scalar.muli v3 c1_i32_862
  let v965 : BitVec 32 := Scalar.addi c0_i32_863 v964
  v965.toNat
def k0_dev24 (v4 : BitVec 32) : Nat :=
  let c0_i32_892 : BitVec 32 := 0#32
  let c1_i32_891 : BitVec 32 := 1#32
  let v988 : BitVec 32 := Scalar.muli v4 c1_i32_891
  let v989 : BitVec 32 := Scalar.addi c0_i32_892 v988
  v989.toNat
def k0_off22 (v1000 : BitVec 32) : Fin 2 → Nat :=
  let c128_i32_907 : BitVec 32 := 128#32
  let v1017 : BitVec 32 := Scalar.muli v1000 c128_i32_907
  let v1018 : Index := Scalar.indexCast v1017
  let c0_908 : Index := 0#32
  ![v1018.toNat, 0]

def k0_chk23 (v1000 : BitVec 32) : Prop :=
  (∀ a, (k0_off22 v1000) a + S128x256.size a ≤ S4096x256.size a)
theorem k0_off22_inb : ∀ (v1000 : BitVec 32) (k0_hw23 : k0_chk23 v1000), ∀ a, (k0_off22 v1000) a + S128x256.size a ≤ S4096x256.size a := fun v1000 k0_hw23 => k0_hw23

def k0_off23 (v1036 : BitVec 32) : Fin 2 → Nat :=
  let c128_i32_939 : BitVec 32 := 128#32
  let v1053 : BitVec 32 := Scalar.muli v1036 c128_i32_939
  let v1054 : Index := Scalar.indexCast v1053
  let c0_940 : Index := 0#32
  ![v1054.toNat, 0]

def k0_chk24 (v1036 : BitVec 32) : Prop :=
  (∀ a, (k0_off23 v1036) a + S128x256.size a ≤ S4096x256.size a)
theorem k0_off23_inb : ∀ (v1036 : BitVec 32) (k0_hw24 : k0_chk24 v1036), ∀ a, (k0_off23 v1036) a + S128x256.size a ≤ S4096x256.size a := fun v1036 k0_hw24 => k0_hw24

def k0_dev25 (v3 : BitVec 32) : Nat :=
  let c0_i32_946 : BitVec 32 := 0#32
  let c1_i32_945 : BitVec 32 := 1#32
  let v1056 : BitVec 32 := Scalar.muli v3 c1_i32_945
  let v1057 : BitVec 32 := Scalar.addi c0_i32_946 v1056
  v1057.toNat
def k0_dev26 (v4 : BitVec 32) : Nat :=
  let c0_i32_975 : BitVec 32 := 0#32
  let c1_i32_974 : BitVec 32 := 1#32
  let v1080 : BitVec 32 := Scalar.muli v4 c1_i32_974
  let v1081 : BitVec 32 := Scalar.addi c0_i32_975 v1080
  v1081.toNat
def k0_off24 (v1092 : BitVec 32) : Fin 2 → Nat :=
  let c128_i32_990 : BitVec 32 := 128#32
  let v1109 : BitVec 32 := Scalar.muli v1092 c128_i32_990
  let v1110 : Index := Scalar.indexCast v1109
  let c0_991 : Index := 0#32
  ![v1110.toNat, 0]

def k0_chk25 (v1092 : BitVec 32) : Prop :=
  (∀ a, (k0_off24 v1092) a + S128x256.size a ≤ S4096x256.size a)
theorem k0_off24_inb : ∀ (v1092 : BitVec 32) (k0_hw25 : k0_chk25 v1092), ∀ a, (k0_off24 v1092) a + S128x256.size a ≤ S4096x256.size a := fun v1092 k0_hw25 => k0_hw25

def k0_off25 (v1128 : BitVec 32) : Fin 2 → Nat :=
  let c128_i32_1022 : BitVec 32 := 128#32
  let v1145 : BitVec 32 := Scalar.muli v1128 c128_i32_1022
  let v1146 : Index := Scalar.indexCast v1145
  let c0_1023 : Index := 0#32
  ![v1146.toNat, 0]

def k0_chk26 (v1128 : BitVec 32) : Prop :=
  (∀ a, (k0_off25 v1128) a + S128x256.size a ≤ S4096x256.size a)
theorem k0_off25_inb : ∀ (v1128 : BitVec 32) (k0_hw26 : k0_chk26 v1128), ∀ a, (k0_off25 v1128) a + S128x256.size a ≤ S4096x256.size a := fun v1128 k0_hw26 => k0_hw26

def k0_dev27 (v3 : BitVec 32) : Nat :=
  let c0_i32_1029 : BitVec 32 := 0#32
  let c1_i32_1028 : BitVec 32 := 1#32
  let v1148 : BitVec 32 := Scalar.muli v3 c1_i32_1028
  let v1149 : BitVec 32 := Scalar.addi c0_i32_1029 v1148
  v1149.toNat
def k0_dev28 (v4 : BitVec 32) : Nat :=
  let c0_i32_1058 : BitVec 32 := 0#32
  let c1_i32_1057 : BitVec 32 := 1#32
  let v1172 : BitVec 32 := Scalar.muli v4 c1_i32_1057
  let v1173 : BitVec 32 := Scalar.addi c0_i32_1058 v1172
  v1173.toNat
def k0_off26 (v1184 : BitVec 32) : Fin 2 → Nat :=
  let c128_i32_1073 : BitVec 32 := 128#32
  let v1201 : BitVec 32 := Scalar.muli v1184 c128_i32_1073
  let v1202 : Index := Scalar.indexCast v1201
  let c0_1074 : Index := 0#32
  ![v1202.toNat, 0]

def k0_chk27 (v1184 : BitVec 32) : Prop :=
  (∀ a, (k0_off26 v1184) a + S128x256.size a ≤ S4096x256.size a)
theorem k0_off26_inb : ∀ (v1184 : BitVec 32) (k0_hw27 : k0_chk27 v1184), ∀ a, (k0_off26 v1184) a + S128x256.size a ≤ S4096x256.size a := fun v1184 k0_hw27 => k0_hw27

def k0_off27 (v1220 : BitVec 32) : Fin 2 → Nat :=
  let c128_i32_1105 : BitVec 32 := 128#32
  let v1237 : BitVec 32 := Scalar.muli v1220 c128_i32_1105
  let v1238 : Index := Scalar.indexCast v1237
  let c0_1106 : Index := 0#32
  ![v1238.toNat, 0]

def k0_chk28 (v1220 : BitVec 32) : Prop :=
  (∀ a, (k0_off27 v1220) a + S128x256.size a ≤ S4096x256.size a)
theorem k0_off27_inb : ∀ (v1220 : BitVec 32) (k0_hw28 : k0_chk28 v1220), ∀ a, (k0_off27 v1220) a + S128x256.size a ≤ S4096x256.size a := fun v1220 k0_hw28 => k0_hw28

def k0_dev29 (v3 : BitVec 32) : Nat :=
  let c0_i32_1112 : BitVec 32 := 0#32
  let c1_i32_1111 : BitVec 32 := 1#32
  let v1240 : BitVec 32 := Scalar.muli v3 c1_i32_1111
  let v1241 : BitVec 32 := Scalar.addi c0_i32_1112 v1240
  v1241.toNat
def k0_dev30 (v4 : BitVec 32) : Nat :=
  let c0_i32_1141 : BitVec 32 := 0#32
  let c1_i32_1140 : BitVec 32 := 1#32
  let v1264 : BitVec 32 := Scalar.muli v4 c1_i32_1140
  let v1265 : BitVec 32 := Scalar.addi c0_i32_1141 v1264
  v1265.toNat
def k0_off28 (v1276 : BitVec 32) : Fin 2 → Nat :=
  let c128_i32_1156 : BitVec 32 := 128#32
  let v1293 : BitVec 32 := Scalar.muli v1276 c128_i32_1156
  let v1294 : Index := Scalar.indexCast v1293
  let c0_1157 : Index := 0#32
  ![v1294.toNat, 0]

def k0_chk29 (v1276 : BitVec 32) : Prop :=
  (∀ a, (k0_off28 v1276) a + S128x256.size a ≤ S4096x256.size a)
theorem k0_off28_inb : ∀ (v1276 : BitVec 32) (k0_hw29 : k0_chk29 v1276), ∀ a, (k0_off28 v1276) a + S128x256.size a ≤ S4096x256.size a := fun v1276 k0_hw29 => k0_hw29

def k0_off29 (v1312 : BitVec 32) : Fin 2 → Nat :=
  let c128_i32_1188 : BitVec 32 := 128#32
  let v1329 : BitVec 32 := Scalar.muli v1312 c128_i32_1188
  let v1330 : Index := Scalar.indexCast v1329
  let c0_1189 : Index := 0#32
  ![v1330.toNat, 0]

def k0_chk30 (v1312 : BitVec 32) : Prop :=
  (∀ a, (k0_off29 v1312) a + S128x256.size a ≤ S4096x256.size a)
theorem k0_off29_inb : ∀ (v1312 : BitVec 32) (k0_hw30 : k0_chk30 v1312), ∀ a, (k0_off29 v1312) a + S128x256.size a ≤ S4096x256.size a := fun v1312 k0_hw30 => k0_hw30

def k0_dev31 (v3 : BitVec 32) : Nat :=
  let c0_i32_1195 : BitVec 32 := 0#32
  let c1_i32_1194 : BitVec 32 := 1#32
  let v1332 : BitVec 32 := Scalar.muli v3 c1_i32_1194
  let v1333 : BitVec 32 := Scalar.addi c0_i32_1195 v1332
  v1333.toNat
def k0_dev32 (v4 : BitVec 32) : Nat :=
  let c0_i32_1224 : BitVec 32 := 0#32
  let c1_i32_1223 : BitVec 32 := 1#32
  let v1356 : BitVec 32 := Scalar.muli v4 c1_i32_1223
  let v1357 : BitVec 32 := Scalar.addi c0_i32_1224 v1356
  v1357.toNat

def k0_chk2 (v4 : BitVec 32) : Prop :=
  ((k0_dev2 v4) < nD) ∧
  ((k0_dev4 v4) < nD) ∧
  ((k0_dev6 v4) < nD) ∧
  ((k0_dev8 v4) < nD) ∧
  ((k0_dev10 v4) < nD) ∧
  ((k0_dev12 v4) < nD) ∧
  ((k0_dev14 v4) < nD) ∧
  ((k0_dev16 v4) < nD) ∧
  ((k0_dev18 v4) < nD) ∧
  ((k0_dev20 v4) < nD) ∧
  ((k0_dev22 v4) < nD) ∧
  ((k0_dev24 v4) < nD) ∧
  ((k0_dev26 v4) < nD) ∧
  ((k0_dev28 v4) < nD) ∧
  ((k0_dev30 v4) < nD) ∧
  ((k0_dev32 v4) < nD)
theorem k0_dev2_lt : ∀ (v4 : BitVec 32) (k0_hw2 : k0_chk2 v4), (k0_dev2 v4) < nD := fun v4 k0_hw2 => k0_hw2.1
theorem k0_dev4_lt : ∀ (v4 : BitVec 32) (k0_hw2 : k0_chk2 v4), (k0_dev4 v4) < nD := fun v4 k0_hw2 => k0_hw2.2.1
theorem k0_dev6_lt : ∀ (v4 : BitVec 32) (k0_hw2 : k0_chk2 v4), (k0_dev6 v4) < nD := fun v4 k0_hw2 => k0_hw2.2.2.1
theorem k0_dev8_lt : ∀ (v4 : BitVec 32) (k0_hw2 : k0_chk2 v4), (k0_dev8 v4) < nD := fun v4 k0_hw2 => k0_hw2.2.2.2.1
theorem k0_dev10_lt : ∀ (v4 : BitVec 32) (k0_hw2 : k0_chk2 v4), (k0_dev10 v4) < nD := fun v4 k0_hw2 => k0_hw2.2.2.2.2.1
theorem k0_dev12_lt : ∀ (v4 : BitVec 32) (k0_hw2 : k0_chk2 v4), (k0_dev12 v4) < nD := fun v4 k0_hw2 => k0_hw2.2.2.2.2.2.1
theorem k0_dev14_lt : ∀ (v4 : BitVec 32) (k0_hw2 : k0_chk2 v4), (k0_dev14 v4) < nD := fun v4 k0_hw2 => k0_hw2.2.2.2.2.2.2.1
theorem k0_dev16_lt : ∀ (v4 : BitVec 32) (k0_hw2 : k0_chk2 v4), (k0_dev16 v4) < nD := fun v4 k0_hw2 => k0_hw2.2.2.2.2.2.2.2.1
theorem k0_dev18_lt : ∀ (v4 : BitVec 32) (k0_hw2 : k0_chk2 v4), (k0_dev18 v4) < nD := fun v4 k0_hw2 => k0_hw2.2.2.2.2.2.2.2.2.1
theorem k0_dev20_lt : ∀ (v4 : BitVec 32) (k0_hw2 : k0_chk2 v4), (k0_dev20 v4) < nD := fun v4 k0_hw2 => k0_hw2.2.2.2.2.2.2.2.2.2.1
theorem k0_dev22_lt : ∀ (v4 : BitVec 32) (k0_hw2 : k0_chk2 v4), (k0_dev22 v4) < nD := fun v4 k0_hw2 => k0_hw2.2.2.2.2.2.2.2.2.2.2.1
theorem k0_dev24_lt : ∀ (v4 : BitVec 32) (k0_hw2 : k0_chk2 v4), (k0_dev24 v4) < nD := fun v4 k0_hw2 => k0_hw2.2.2.2.2.2.2.2.2.2.2.2.1
theorem k0_dev26_lt : ∀ (v4 : BitVec 32) (k0_hw2 : k0_chk2 v4), (k0_dev26 v4) < nD := fun v4 k0_hw2 => k0_hw2.2.2.2.2.2.2.2.2.2.2.2.2.1
theorem k0_dev28_lt : ∀ (v4 : BitVec 32) (k0_hw2 : k0_chk2 v4), (k0_dev28 v4) < nD := fun v4 k0_hw2 => k0_hw2.2.2.2.2.2.2.2.2.2.2.2.2.2.1
theorem k0_dev30_lt : ∀ (v4 : BitVec 32) (k0_hw2 : k0_chk2 v4), (k0_dev30 v4) < nD := fun v4 k0_hw2 => k0_hw2.2.2.2.2.2.2.2.2.2.2.2.2.2.2.1
theorem k0_dev32_lt : ∀ (v4 : BitVec 32) (k0_hw2 : k0_chk2 v4), (k0_dev32 v4) < nD := fun v4 k0_hw2 => k0_hw2.2.2.2.2.2.2.2.2.2.2.2.2.2.2.2

def k0_off30 (v1368 : BitVec 32) : Fin 2 → Nat :=
  let c128_i32_1239 : BitVec 32 := 128#32
  let v1385 : BitVec 32 := Scalar.muli v1368 c128_i32_1239
  let v1386 : Index := Scalar.indexCast v1385
  let c0_1240 : Index := 0#32
  ![v1386.toNat, 0]

def k0_chk31 (v1368 : BitVec 32) : Prop :=
  (∀ a, (k0_off30 v1368) a + S128x256.size a ≤ S4096x256.size a)
theorem k0_off30_inb : ∀ (v1368 : BitVec 32) (k0_hw31 : k0_chk31 v1368), ∀ a, (k0_off30 v1368) a + S128x256.size a ≤ S4096x256.size a := fun v1368 k0_hw31 => k0_hw31

def k0_off31 (v1404 : BitVec 32) : Fin 2 → Nat :=
  let c128_i32_1271 : BitVec 32 := 128#32
  let v1421 : BitVec 32 := Scalar.muli v1404 c128_i32_1271
  let v1422 : Index := Scalar.indexCast v1421
  let c0_1272 : Index := 0#32
  ![v1422.toNat, 0]

def k0_chk32 (v1404 : BitVec 32) : Prop :=
  (∀ a, (k0_off31 v1404) a + S128x256.size a ≤ S4096x256.size a)
theorem k0_off31_inb : ∀ (v1404 : BitVec 32) (k0_hw32 : k0_chk32 v1404), ∀ a, (k0_off31 v1404) a + S128x256.size a ≤ S4096x256.size a := fun v1404 k0_hw32 => k0_hw32

def k0_dev33 (v3 : BitVec 32) : Nat :=
  let c0_i32_1278 : BitVec 32 := 0#32
  let c1_i32_1277 : BitVec 32 := 1#32
  let v1424 : BitVec 32 := Scalar.muli v3 c1_i32_1277
  let v1425 : BitVec 32 := Scalar.addi c0_i32_1278 v1424
  v1425.toNat

def k0_chk1 (v3 : BitVec 32) : Prop :=
  ((k0_dev1 v3) < nD) ∧
  ((k0_dev3 v3) < nD) ∧
  ((k0_dev5 v3) < nD) ∧
  ((k0_dev7 v3) < nD) ∧
  ((k0_dev9 v3) < nD) ∧
  ((k0_dev11 v3) < nD) ∧
  ((k0_dev13 v3) < nD) ∧
  ((k0_dev15 v3) < nD) ∧
  ((k0_dev17 v3) < nD) ∧
  ((k0_dev19 v3) < nD) ∧
  ((k0_dev21 v3) < nD) ∧
  ((k0_dev23 v3) < nD) ∧
  ((k0_dev25 v3) < nD) ∧
  ((k0_dev27 v3) < nD) ∧
  ((k0_dev29 v3) < nD) ∧
  ((k0_dev31 v3) < nD) ∧
  ((k0_dev33 v3) < nD)
theorem k0_dev1_lt : ∀ (v3 : BitVec 32) (k0_hw1 : k0_chk1 v3), (k0_dev1 v3) < nD := fun v3 k0_hw1 => k0_hw1.1
theorem k0_dev3_lt : ∀ (v3 : BitVec 32) (k0_hw1 : k0_chk1 v3), (k0_dev3 v3) < nD := fun v3 k0_hw1 => k0_hw1.2.1
theorem k0_dev5_lt : ∀ (v3 : BitVec 32) (k0_hw1 : k0_chk1 v3), (k0_dev5 v3) < nD := fun v3 k0_hw1 => k0_hw1.2.2.1
theorem k0_dev7_lt : ∀ (v3 : BitVec 32) (k0_hw1 : k0_chk1 v3), (k0_dev7 v3) < nD := fun v3 k0_hw1 => k0_hw1.2.2.2.1
theorem k0_dev9_lt : ∀ (v3 : BitVec 32) (k0_hw1 : k0_chk1 v3), (k0_dev9 v3) < nD := fun v3 k0_hw1 => k0_hw1.2.2.2.2.1
theorem k0_dev11_lt : ∀ (v3 : BitVec 32) (k0_hw1 : k0_chk1 v3), (k0_dev11 v3) < nD := fun v3 k0_hw1 => k0_hw1.2.2.2.2.2.1
theorem k0_dev13_lt : ∀ (v3 : BitVec 32) (k0_hw1 : k0_chk1 v3), (k0_dev13 v3) < nD := fun v3 k0_hw1 => k0_hw1.2.2.2.2.2.2.1
theorem k0_dev15_lt : ∀ (v3 : BitVec 32) (k0_hw1 : k0_chk1 v3), (k0_dev15 v3) < nD := fun v3 k0_hw1 => k0_hw1.2.2.2.2.2.2.2.1
theorem k0_dev17_lt : ∀ (v3 : BitVec 32) (k0_hw1 : k0_chk1 v3), (k0_dev17 v3) < nD := fun v3 k0_hw1 => k0_hw1.2.2.2.2.2.2.2.2.1
theorem k0_dev19_lt : ∀ (v3 : BitVec 32) (k0_hw1 : k0_chk1 v3), (k0_dev19 v3) < nD := fun v3 k0_hw1 => k0_hw1.2.2.2.2.2.2.2.2.2.1
theorem k0_dev21_lt : ∀ (v3 : BitVec 32) (k0_hw1 : k0_chk1 v3), (k0_dev21 v3) < nD := fun v3 k0_hw1 => k0_hw1.2.2.2.2.2.2.2.2.2.2.1
theorem k0_dev23_lt : ∀ (v3 : BitVec 32) (k0_hw1 : k0_chk1 v3), (k0_dev23 v3) < nD := fun v3 k0_hw1 => k0_hw1.2.2.2.2.2.2.2.2.2.2.2.1
theorem k0_dev25_lt : ∀ (v3 : BitVec 32) (k0_hw1 : k0_chk1 v3), (k0_dev25 v3) < nD := fun v3 k0_hw1 => k0_hw1.2.2.2.2.2.2.2.2.2.2.2.2.1
theorem k0_dev27_lt : ∀ (v3 : BitVec 32) (k0_hw1 : k0_chk1 v3), (k0_dev27 v3) < nD := fun v3 k0_hw1 => k0_hw1.2.2.2.2.2.2.2.2.2.2.2.2.2.1
theorem k0_dev29_lt : ∀ (v3 : BitVec 32) (k0_hw1 : k0_chk1 v3), (k0_dev29 v3) < nD := fun v3 k0_hw1 => k0_hw1.2.2.2.2.2.2.2.2.2.2.2.2.2.2.1
theorem k0_dev31_lt : ∀ (v3 : BitVec 32) (k0_hw1 : k0_chk1 v3), (k0_dev31 v3) < nD := fun v3 k0_hw1 => k0_hw1.2.2.2.2.2.2.2.2.2.2.2.2.2.2.2.1
theorem k0_dev33_lt : ∀ (v3 : BitVec 32) (k0_hw1 : k0_chk1 v3), (k0_dev33 v3) < nD := fun v3 k0_hw1 => k0_hw1.2.2.2.2.2.2.2.2.2.2.2.2.2.2.2.2

def k0_off32 (v1450 : BitVec 32) : Fin 2 → Nat :=
  let c128_i32_1312 : BitVec 32 := 128#32
  let v1467 : BitVec 32 := Scalar.muli v1450 c128_i32_1312
  let v1468 : Index := Scalar.indexCast v1467
  let c0_1313 : Index := 0#32
  ![v1468.toNat, 0]

def k0_chk33 (v1450 : BitVec 32) : Prop :=
  (∀ a, (k0_off32 v1450) a + S128x256.size a ≤ S4096x256.size a)
theorem k0_off32_inb : ∀ (v1450 : BitVec 32) (k0_hw33 : k0_chk33 v1450), ∀ a, (k0_off32 v1450) a + S128x256.size a ≤ S4096x256.size a := fun v1450 k0_hw33 => k0_hw33

abbrev stage0_0 : Fin 1 → Memref sig .tc .vmem S32x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S15 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x4096 : Shape := ⟨2, ![1024, 4096]⟩
abbrev S4096x8192 : Shape := ⟨2, ![4096, 8192]⟩
abbrev S1 : Shape := ⟨1, ![1]⟩
abbrev S4096x4096 : Shape := ⟨2, ![4096, 4096]⟩

abbrev nBuf : Space → Nat
  | .hbm => 5
  | .vmem => 3
  | .smem => 2
  | _ => 0

abbrev bufTy : (tb : Table) → Fin (tcTables nBuf tb) → BufTy
  | .hbm, ⟨0, _⟩ => ⟨S1024x4096, .i32⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S1024x4096, .i32⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S1024x4096, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Same.lean ====
/-
The device program is printed twice, once for the run over bits and once for the run over the extended reals. The two printings are
the same text over any carrier: the tables, the body, the table of bodies and the host lines are equal, one by one.
-/
module

public import proofs.«01_k».proof.Proof.Gen.Kernel
public import proofs.«01_k».proof.Proof.Gen.KernelIdeal

@[expose] public section

namespace Cert.Same

open Idealize.ShloMosaic Idealize.ShloMosaic.TcCoe Idealize.SL.Sem

variable {F : FTy → Type} [FloatOps F]

/-- The table of the next devices is the same. -/
theorem lit0_eq : Cert.Kernel.lit0 = Cert.KernelIdeal.lit0 := by funext i; revert i; decide +kernel

/-- The table of the previous devices is the same. -/
theorem lit1_eq : Cert.Kernel.lit1 = Cert.KernelIdeal.lit1 := by funext i; revert i; decide +kernel

/-- The table of the forward copies' row blocks is the same. -/
theorem lit2_eq : Cert.Kernel.lit2 = Cert.KernelIdeal.lit2 := by funext i; revert i; decide +kernel

/-- The table of the backward copies' row blocks is the same. -/
theorem lit3_eq : Cert.Kernel.lit3 = Cert.KernelIdeal.lit3 := by funext i; revert i; decide +kernel

set_option maxHeartbeats 0 in
/-- All of the body but its last store is the same. -/
theorem part50_eq : Cert.Kernel.k0_part50 (F := F) = Cert.KernelIdeal.k0_part50 (F := F) := rfl

set_option maxHeartbeats 0 in
/-- The body is the same. -/
theorem body_eq : Cert.Kernel.cc0_body (F := F) = Cert.KernelIdeal.cc0_body (F := F) := by
  delta Cert.Kernel.cc0_body
  rw [part50_eq]
  rfl

set_option maxHeartbeats 0 in
/-- The table of bodies is the same. -/
theorem defs0_eq : Cert.Kernel.defs₀ (F := F) = Cert.KernelIdeal.defs₀ (F := F) := by
  refine congrArg Defs.onTc (funext fun l => funext fun a => ?_)
  match l, a with
  | 0, (t, s) =>
    show Cert.Kernel.cc0_body _ _ _ _ _ _ _ _ _ _ _ _ _ _ _ _ _ _ _ _ _ _ _ _ = _
    rw [body_eq]
  | ⟨_ + 1, h⟩, _ => exact absurd h (Nat.not_lt.2 (Nat.le_add_left _ _))

set_option maxHeartbeats 0 in
/-- The table of bodies and pipelines is the same. -/
theorem defs_eq : Cert.Kernel.defs (F := F) = Cert.KernelIdeal.defs (F := F) := by
  delta Cert.Kernel.defs
  rw [defs0_eq]
  rfl

set_option maxHeartbeats 0 in
/-- The host lines are the same. -/
theorem main_eq : Cert.Kernel.main (F := F) = Cert.KernelIdeal.main (F := F) := by
  delta Cert.Kernel.main
  rw [lit0_eq, lit1_eq, lit2_eq, lit3_eq]
  rfl

end Cert.Same

end
-- ==== Proof.Tables.lean ====
/-
The neighbour tables of the ring, as the host operations of @main hand them to the kernel: on device `c` the two words
`[next c, prev c]`, and the two lists of the row blocks the forward and the backward copies bring, entry `h` of which is
the device `h + 1` before, respectively after, device `c` on the ring.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The next device along the ring, and the previous one. -/
def nxt (c : Dev nD) : Dev nD :=
  (![3, 0, 1, 4, 7, 2, 5, 15, 16, 10, 13, 8, 11, 14, 6, 12, 19, 9, 17, 20, 23, 18, 21, 31, 25, 26, 29, 24, 27, 30, 22, 28] : Fin 32 → Fin 32) c
def prv (c : Dev nD) : Dev nD :=
  (![1, 2, 5, 0, 3, 6, 14, 4, 11, 17, 9, 12, 15, 10, 13, 7, 8, 18, 21, 16, 19, 22, 30, 20, 27, 24, 25, 28, 31, 26, 29, 23] : Fin 32 → Fin 32) c

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne (c : Dev nD) : nxt c ≠ c := by revert c; decide
theorem prv_ne (c : Dev nD) : prv c ≠ c := by revert c; decide

/-- The ring, once around. -/
def ring : Dev nD ≃ Dev nD := ⟨nxt, prv, prv_nxt, nxt_prv⟩

variable {F : FTy → Type} [FloatOps F]
variable (m : (ℓ : Loc nD τ sig) → Buf (Elt F) ℓ)

/-- The one index of a one-word array. -/
abbrev i1 : S1.Idx := Shape.Idx.first (by decide)

/-- Two one-word arrays end to end. -/
theorem concat_two {α : Type} (a b : S1.Idx → α) (h : Shape.Concatenates [S1, S1] S2 0) (i : S2.Idx) :
    concatenate S2 0 [⟨S1, a⟩, ⟨S1, b⟩] h i = if (i 0).val = 0 then a i1 else b i1 := by
  have hi : i = S2.rowMajor.symm ⟨0, by decide⟩ ∨ i = S2.rowMajor.symm ⟨1, by decide⟩ := by revert i; decide
  rcases hi with rfl | rfl
  · exact concatenate_pair_apply_left 0 a b h _ rfl i1 (by decide)
  · exact concatenate_pair_apply_right 0 a b h _ rfl rfl i1 (by decide) (by decide)

/-- Device `c`'s number as the host works it out: its word modulo 32, with the wrap that a negative index would take. -/
abbrev devIx (c : Dev nD) : S_.Idx → BitVec 32 :=
  select (cmpi CmpIPredicate.slt (Host.remui (Host.divui (constantI S_ 32 c.word) (constantI S_ 32 1#32)) (constantI S_ 32 32#32)) (constantI S_ 32 0#32))
    (addi (Host.remui (Host.divui (constantI S_ 32 c.word) (constantI S_ 32 1#32)) (constantI S_ 32 32#32)) (constantI S_ 32 32#32))
    (Host.remui (Host.divui (constantI S_ 32 c.word) (constantI S_ 32 1#32)) (constantI S_ 32 32#32))

/-- The row a table of hops is read from: 0, with the same wrap by the table's height. -/
abbrev rowIx (n : BitVec 32) : S_.Idx → BitVec 32 :=
  select (cmpi CmpIPredicate.slt (constantI S_ 32 0#32) (constantI S_ 32 0#32)) (addi (constantI S_ 32 0#32) (constantI S_ 32 n)) (constantI S_ 32 0#32)

theorem devIx_eq : ∀ c : Dev nD, (devIx c (Shape.Idx.first h_S_)).toInt = c.val := by decide +kernel

theorem read_next (c : Dev nD) (f : Fin 1 → Int) (hf : ∀ k, f k = c.val) :
    broadcastInDim S1 ![] bcast_S_S1 (fun i => shapeCast S_ (Host.dynamicSlice S1 (fun i => lit0 (S32.rowMajor i)) f sliceFits_S32_S1) shapeCasts_S1_S_ i) i1
      = BitVec.ofNat 32 (nxt c).val := by
  obtain rfl : f = fun _ => (c.val : Int) := funext hf
  revert c
  decide +kernel

theorem read_prev (c : Dev nD) (f : Fin 1 → Int) (hf : ∀ k, f k = c.val) :
    broadcastInDim S1 ![] bcast_S_S1 (fun i => shapeCast S_ (Host.dynamicSlice S1 (fun i => lit1 (S32.rowMajor i)) f sliceFits_S32_S1) shapeCasts_S1_S_ i) i1
      = BitVec.ofNat 32 (prv c).val := by
  obtain rfl : f = fun _ => (c.val : Int) := funext hf
  revert c
  decide +kernel

/-- The forward table: entry `h` on device `c` is the device `h + 1` before it. -/
theorem read_of : ∀ (c : Dev nD) (i : S16.Idx), shapeCast S16 (Host.dynamicSlice S16x1 (fun i => lit2 (S16x32.rowMajor i))
    (fun k : Fin 2 => ((![rowIx 16#32, devIx c] : Fin 2 → S_.Idx → BitVec 32) k (Shape.Idx.first h_S_)).toInt) sliceFits_S16x32_S16x1) shapeCasts_S16x1_S16 i
      = BitVec.ofNat 32 (prv^[(i 0).val + 1] c).val := by decide +kernel

/-- The backward table: entry `h` on device `c` is the device `h + 1` after it. -/
theorem read_ob : ∀ (c : Dev nD) (i : S15.Idx), shapeCast S15 (Host.dynamicSlice S15x1 (fun i => lit3 (S15x32.rowMajor i))
    (fun k : Fin 2 => ((![rowIx 15#32, devIx c] : Fin 2 → S_.Idx → BitVec 32) k (Shape.Idx.first h_S_)).toInt) sliceFits_S15x32_S15x1) shapeCasts_S15x1_S15 i
      = BitVec.ofNat 32 (nxt^[(i 0).val + 1] c).val := by decide +kernel

open StableHlo in
theorem of_eq (c : Dev nD) (i : S16.Idx) : (V1 m c main_v25 : (⟨S16, .i32⟩ : BufTy).Contents (Elt F)) i = BitVec.ofNat 32 (prv^[(i 0).val + 1] c).val := by
  show StableHlo.after (hostOps0 c) (V0 m c) (Proc.devRef .tc main_v25) i = _
  after_results_simp_entrywise
  exact read_of c i
open StableHlo in
theorem ob_eq (c : Dev nD) (i : S15.Idx) : (V1 m c main_v33 : (⟨S15, .i32⟩ : BufTy).Contents (Elt F)) i = BitVec.ofNat 32 (nxt^[(i 0).val + 1] c).val := by
  show StableHlo.after (hostOps0 c) (V0 m c) (Proc.devRef .tc main_v33) i = _
  after_results_simp_entrywise
  exact read_ob c i
/-- The one index operand of a lookup, read in the contents `W` of the device's buffers. -/
theorem index_read (a : Ref sig .tc) (ha : a.ty = ⟨S_, .i32⟩) (W : Valuation τ sig (Elt F)) (n : Int)
    (h : BitVec.toInt ((cast (congrArg (fun U : BufTy => U.Contents (Elt F)) ha) (W (Proc.devRef .tc a)) : (⟨S_, .i32⟩ : BufTy).Contents (Elt F)) (Shape.Idx.first h_S_)) = n) :
    BitVec.toInt ((cast (congrArg (fun U : BufTy => U.Contents (Elt F)) (show ((![a] : Fin 1 → Ref sig .tc) 0).ty = ⟨S_, .i32⟩ from ha)) (W (Proc.devRef .tc ((![a] : Fin 1 → Ref sig .tc) 0))) : (⟨S_, .i32⟩ : BufTy).Contents (Elt F)) (Shape.Idx.first h_S_)) = n := h

open StableHlo in
theorem nbrs_eq (c : Dev nD) (i : S2.Idx) : (V1 m c main_v17 : (⟨S2, .i32⟩ : BufTy).Contents (Elt F)) i = if (i 0).val = 0 then BitVec.ofNat 32 (nxt c).val else BitVec.ofNat 32 (prv c).val := by
  show StableHlo.after (hostOps0 c) (V0 m c) (Proc.devRef .tc main_v17) i = _
  after_results_simp
  refine (concat_two _ _ _ _).trans ?_
  split
  · refine read_next c _ fun k => ?_
    obtain rfl : k = 0 := Subsingleton.elim _ _
    refine index_read (F := F) main_v7 rfl _ _ ?_
    after_results_simp_entrywise
    exact devIx_eq c
  · refine read_prev c _ fun k => ?_
    obtain rfl : k = 0 := Subsingleton.elim _ _
    refine index_read (F := F) main_v12 rfl _ _ ?_
    after_results_simp_entrywise
    exact devIx_eq c

end Cert.Hop
-- ==== Proof.Hops.lean ====
/-
The kernel body as a prologue followed by sixteen hops: what the printed body, cut into parts, is.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The other of the two slots. -/
def oth : Fin 2 → Fin 2 := ![1, 0]

theorem inb_slot (s : Fin 2) : ∀ a, (![s.val, 0, 0] : Fin 3 → ℕ) a + S1x32x4096.size a ≤ S2x32x4096.size a := by revert s; decide
theorem inb_sem (s : Fin 2) : ∀ a, (![s.val] : Fin 1 → ℕ) a + S1.size a ≤ S2.size a := by revert s; decide
theorem inb_of {h : ℕ} (hh : h < 16) : ∀ a, (![h] : Fin 1 → ℕ) a + S1.size a ≤ S16.size a := fun a => by
  obtain rfl : a = 0 := Subsingleton.elim _ _
  show h + 1 ≤ 16
  omega
theorem inb_ob {h : ℕ} (hh : h < 15) : ∀ a, (![h] : Fin 1 → ℕ) a + S1.size a ≤ S15.size a := fun a => by
  obtain rfl : a = 0 := Subsingleton.elim _ _
  show h + 1 ≤ 15
  omega

/-- Slot `s` of a communication buffer, as a block and as the array a copy names. -/
abbrev slotRect (s : Fin 2) : Rect S2x32x4096 := Rect.unit (s := S2x32x4096) ![s.val, 0, 0] S1x32x4096.size (inb_slot s)
abbrev slotOf (M : Memref sig .tc .vmem S2x32x4096 .i32) (s : Fin 2) : Memref sig .tc .vmem S32x4096 .i32 :=
  (M.slice (slotRect s) (fun _ => rfl)).squeeze S32x4096 squeezes_S1x32x4096_S32x4096
/-- Semaphore `s` of a pair. -/
abbrev semOf (A : DmaSems sig S2) (s : Fin 2) : DmaSem sig :=
  ((A.slice (Rect.unit (s := S2) ![s.val] S1.size (inb_sem s))).squeeze S_ squeezes_S1_S_).sem

/-- The two communication buffers. -/
abbrev comF : Memref sig .tc .vmem S2x32x4096 .i32 := Memref.whole cc0_scratch0
abbrev comB : Memref sig .tc .vmem S2x32x4096 .i32 := Memref.whole cc0_scratch1
abbrev stX : Memref sig .tc .vmem S32x4096 .i32 := Memref.whole cc0_stg0_0
abbrev stW : Memref sig .tc .vmem S4096x256 .fp8e5m2 := Memref.whole cc0_stg1_0
abbrev stSx : Memref sig .tc .smem S1 .f32 := Memref.whole cc0_stg2_0
abbrev stSw : Memref sig .tc .smem S1 .f32 := Memref.whole cc0_stg3_0
abbrev stN : Memref sig .tc .smem S2 .i32 := Memref.whole cc0_stg4_0
abbrev stF : Memref sig .tc .smem S16 .i32 := Memref.whole cc0_stg5_0
abbrev stB : Memref sig .tc .smem S15 .i32 := Memref.whole cc0_stg6_0
abbrev stO : Memref sig .tc .vmem S4096x256 .f32 := Memref.whole cc0_stg7_0

abbrev wAll : Rect S4096x256 := Rect.unit (s := S4096x256) ![0, 0] S4096x256.size inb_S4096x256_S4096x256_0_0
abbrev xAll : Rect S32x4096 := Rect.unit (s := S32x4096) ![0, 0] S32x4096.size inb_S32x4096_S32x4096_0_0

/-- The programs of one core. -/
abbrev KProg (F : FTy → Type) (α : Type) := Prog (TpuEff nD τ sig (Elt F) Λ₀ .tc) α

/-- Start the copy of slot `s` of a communication buffer into the other slot of device `d`'s. -/
def sendSlot (M : Memref sig .tc .vmem S2x32x4096 .i32) (A B : DmaSems sig S2) (s : Fin 2) (d : Dev nD) : KProg F PUnit :=
  Prog.lift (.enqueueDma (slotOf M s) (.remote (Dev.tc d) (slotOf M (oth s)) (.dma (semOf A s))) (.dma (semOf B (oth s)))
    ((View.wordExact_bits rfl).reshape _ _) ((View.wordExact_bits rfl).reshape _ _) ⟨⟨rfl, Or.inl rfl⟩, trivial⟩)

/-- Wait for the copy's source, then for what the neighbour sends. -/
def waitSlots (M : Memref sig .tc .vmem S2x32x4096 .i32) (A B : DmaSems sig S2) (s : Fin 2) : KProg F PUnit := do
  Prog.lift (.waitDma2 (semOf A s) (slotOf M (oth s)) (slotOf M s) ((View.wordExact_bits rfl).reshape _ _) ((View.wordExact_bits rfl).reshape _ _))
  Prog.lift (.waitDma2 (semOf B (oth s)) (slotOf M s) (slotOf M (oth s)) ((View.wordExact_bits rfl).reshape _ _) ((View.wordExact_bits rfl).reshape _ _))

/-- The row block a word of a table names, and what is multiplied out and stored there. -/
def blockAt (v12 : F .f32) (x : Vec F S1x32x4096 .i32) (o : Elt F .i32) : KProg F PUnit := do
  have hw : k0_chk3 o := (← Prog.lift (TpuEff.assume (k0_chk3 o) (k0_chk3.dec o))).down
  let w : Vec F S4096x256 .fp8e5m2 ← Prog.lift (.load stW wAll.toLoadRect (View.loadsAt_vmem h_S4096x256))
  let _ : Vec F S128x256 .f32 ← Prog.lift (.load stO (Rect.unit (s := S4096x256) (k0_off2 o) S128x256.size (k0_off2_inb o hw)).toLoadRect (View.loadsAt_vmem h_S128x256))
  Prog.lift (.store stO (Rect.unit (s := S4096x256) (k0_off2 o) S128x256.size (k0_off2_inb o hw)) (k0_pay9 v12 x w) Finset.univ (View.stores_vmem_bits_univ h_S128x256 rfl) (.inl rfl))

/-- The block the forward ring brought, multiplied out. -/
def computeF (v12 : F .f32) (s : Fin 2) {h : ℕ} (hh : h < 16) : KProg F PUnit := do
  let x : Vec F S1x32x4096 .i32 ← Prog.lift (.load comF (slotRect s).toLoadRect (View.loadsAt_vmem h_S1x32x4096))
  let o : Elt F .i32 ← smemLoad stF (Rect.unit (s := S16) ![h] S1.size (inb_of hh)) numel1_S1 rfl
  blockAt v12 x o
/-- The block the backward ring brought, multiplied out. -/
def computeB (v12 : F .f32) (s : Fin 2) {h : ℕ} (hh : h < 15) : KProg F PUnit := do
  let x : Vec F S1x32x4096 .i32 ← Prog.lift (.load comB (slotRect s).toLoadRect (View.loadsAt_vmem h_S1x32x4096))
  let o : Elt F .i32 ← smemLoad stB (Rect.unit (s := S15) ![h] S1.size (inb_ob hh)) numel1_S1 rfl
  blockAt v12 x o

/-- One hop with both rings. -/
def hop (rt lt : Dev nD) (v12 : F .f32) (s : Fin 2) {h : ℕ} (hh : h < 15) : KProg F PUnit := do
  sendSlot comF cc0_scratch2 cc0_scratch3 s rt
  waitSlots comF cc0_scratch2 cc0_scratch3 s
  sendSlot comB cc0_scratch4 cc0_scratch5 s lt
  computeF v12 (oth s) (Nat.lt_succ_of_lt hh)
  waitSlots comB cc0_scratch4 cc0_scratch5 s
  computeB v12 (oth s) hh
/-- The last hop: the forward ring alone. -/
def hopLast (rt : Dev nD) (v12 : F .f32) : KProg F PUnit := do
  sendSlot comF cc0_scratch2 cc0_scratch3 1 rt
  waitSlots comF cc0_scratch2 cc0_scratch3 1
  computeF v12 (oth 1) (h := 15) (by decide)

/-- The neighbours by the table, the barrier with them, the scale, the own block into both slots 0, and the own block multiplied out. -/
def prologue : KProg F (Dev nD × Dev nD × F .f32) := do
  let d0 : Dev nD ← Prog.lift .deviceId
  let v3 : Elt F .i32 ← smemLoad stN (Rect.unit (s := S2) ![0] S1.size inb_S2_S1_0) numel1_S1 rfl
  have hw1 : k0_chk1 v3 := (← Prog.lift (TpuEff.assume (k0_chk1 v3) (k0_chk1.dec v3))).down
  let v4 : Elt F .i32 ← smemLoad stN (Rect.unit (s := S2) ![1] S1.size inb_S2_S1_1) numel1_S1 rfl
  have hw2 : k0_chk2 v4 := (← Prog.lift (TpuEff.assume (k0_chk2 v4) (k0_chk2.dec v4))).down
  semSignalWord (⟨k0_dev1 v3, k0_dev1_lt v3 hw1⟩ : Dev nD) (SemArray.scalar (sig.barrier 0 rfl) : Sems sig S_).sem 1#32
  semSignalWord (⟨k0_dev2 v4, k0_dev2_lt v4 hw2⟩ : Dev nD) (SemArray.scalar (sig.barrier 0 rfl) : Sems sig S_).sem 1#32
  semWaitWord (SemArray.scalar (sig.barrier 0 rfl) : Sems sig S_).sem 2#32
  let v10 : Elt F .f32 ← smemLoad stSx (Rect.unit (s := S1) ![0] S1.size inb_S1_S1_0) numel1_S1 rfl
  let v11 : Elt F .f32 ← smemLoad stSw (Rect.unit (s := S1) ![0] S1.size inb_S1_S1_0) numel1_S1 rfl
  let v13 : Vec F S32x4096 .i32 ← Prog.lift (.load stX xAll.toLoadRect (View.loadsAt_vmem h_S32x4096))
  let _ : Vec F S1x32x4096 .i32 ← Prog.lift (.load comF (slotRect 0).toLoadRect (View.loadsAt_vmem h_S1x32x4096))
  Prog.lift (.store comF (slotRect 0) (k0_pay3 v13) Finset.univ (View.stores_vmem_bits_univ h_S1x32x4096 rfl) (.inl rfl))
  let v18 : Vec F S32x4096 .i32 ← Prog.lift (.load stX xAll.toLoadRect (View.loadsAt_vmem h_S32x4096))
  let _ : Vec F S1x32x4096 .i32 ← Prog.lift (.load comB (slotRect 0).toLoadRect (View.loadsAt_vmem h_S1x32x4096))
  Prog.lift (.store comB (slotRect 0) (k0_pay4 v18) Finset.univ (View.stores_vmem_bits_univ h_S1x32x4096 rfl) (.inl rfl))
  let v23 : Vec F S32x4096 .i32 ← Prog.lift (.load stX xAll.toLoadRect (View.loadsAt_vmem h_S32x4096))
  let v26 : Vec F S4096x256 .fp8e5m2 ← Prog.lift (.load stW wAll.toLoadRect (View.loadsAt_vmem h_S4096x256))
  let _ : Vec F S128x256 .f32 ← Prog.lift (.load stO (Rect.unit (s := S4096x256) (k0_off1 d0) S128x256.size (k0_off1_inb d0)).toLoadRect (View.loadsAt_vmem h_S128x256))
  Prog.lift (.store stO (Rect.unit (s := S4096x256) (k0_off1 d0) S128x256.size (k0_off1_inb d0)) (k0_pay6 (k0_pay2 v10 v11) (k0_pay5 v23) v26) Finset.univ (View.stores_vmem_bits_univ h_S128x256 rfl) (.inl rfl))
  pure (⟨k0_dev1 v3, k0_dev1_lt v3 hw1⟩, ⟨k0_dev2 v4, k0_dev2_lt v4 hw2⟩, k0_pay2 v10 v11)

/-- The sixteen hops. -/
def hops (p : Dev nD × Dev nD × F .f32) : KProg F PUnit := do
  hop p.1 p.2.1 p.2.2 0 (h := 0) (by decide)
  hop p.1 p.2.1 p.2.2 1 (h := 1) (by decide)
  hop p.1 p.2.1 p.2.2 0 (h := 2) (by decide)
  hop p.1 p.2.1 p.2.2 1 (h := 3) (by decide)
  hop p.1 p.2.1 p.2.2 0 (h := 4) (by decide)
  hop p.1 p.2.1 p.2.2 1 (h := 5) (by decide)
  hop p.1 p.2.1 p.2.2 0 (h := 6) (by decide)
  hop p.1 p.2.1 p.2.2 1 (h := 7) (by decide)
  hop p.1 p.2.1 p.2.2 0 (h := 8) (by decide)
  hop p.1 p.2.1 p.2.2 1 (h := 9) (by decide)
  hop p.1 p.2.1 p.2.2 0 (h := 10) (by decide)
  hop p.1 p.2.1 p.2.2 1 (h := 11) (by decide)
  hop p.1 p.2.1 p.2.2 0 (h := 12) (by decide)
  hop p.1 p.2.1 p.2.2 1 (h := 13) (by decide)
  hop p.1 p.2.1 p.2.2 0 (h := 14) (by decide)
  hopLast p.1 p.2.2

set_option maxRecDepth 100000 in
set_option maxHeartbeats 0 in
/-- The printed body is the prologue followed by the hops. -/
theorem cc0_body_hops :
    cc0_body (F := F) stX (Memref.isWhole_whole _) stW (Memref.isWhole_whole _) stSx (Memref.isWhole_whole _) stSw (Memref.isWhole_whole _)
      stN (Memref.isWhole_whole _) stF (Memref.isWhole_whole _) stB (Memref.isWhole_whole _) stO (Memref.isWhole_whole _)
      comF (Memref.isWhole_whole _) comB (Memref.isWhole_whole _) cc0_scratch2 cc0_scratch3 cc0_scratch4 cc0_scratch5
      = prologue >>= hops := by
  rw [cc0_body_eq_skeleton]
  simp only [cc0_body_skel, k0_part50_eq_skeleton, k0_part50_skel, k0_part49_eq_skeleton, k0_part49_skel, k0_part48_eq_skeleton, k0_part48_skel, k0_part47_eq_skeleton, k0_part47_skel, k0_part46_eq_skeleton, k0_part46_skel, k0_part45_eq_skeleton, k0_part45_skel, k0_part44_eq_skeleton, k0_part44_skel, k0_part43_eq_skeleton, k0_part43_skel, k0_part42_eq_skeleton, k0_part42_skel, k0_part41_eq_skeleton, k0_part41_skel, k0_part40_eq_skeleton, k0_part40_skel, k0_part39_eq_skeleton, k0_part39_skel, k0_part38_eq_skeleton, k0_part38_skel, k0_part37_eq_skeleton, k0_part37_skel, k0_part36_eq_skeleton, k0_part36_skel, k0_part35_eq_skeleton, k0_part35_skel, k0_part34_eq_skeleton, k0_part34_skel, k0_part33_eq_skeleton, k0_part33_skel, k0_part32_eq_skeleton, k0_part32_skel, k0_part31_eq_skeleton, k0_part31_skel, k0_part30_eq_skeleton, k0_part30_skel, k0_part29_eq_skeleton, k0_part29_skel, k0_part28_eq_skeleton, k0_part28_skel, k0_part27_eq_skeleton, k0_part27_skel, k0_part26_eq_skeleton, k0_part26_skel, k0_part25_eq_skeleton, k0_part25_skel, k0_part24_eq_skeleton, k0_part24_skel, k0_part23_eq_skeleton, k0_part23_skel, k0_part22_eq_skeleton, k0_part22_skel, k0_part21_eq_skeleton, k0_part21_skel, k0_part20_eq_skeleton, k0_part20_skel, k0_part19_eq_skeleton, k0_part19_skel, k0_part18_eq_skeleton, k0_part18_skel, k0_part17_eq_skeleton, k0_part17_skel, k0_part16_eq_skeleton, k0_part16_skel, k0_part15_eq_skeleton, k0_part15_skel, k0_part14_eq_skeleton, k0_part14_skel, k0_part13_eq_skeleton, k0_part13_skel, k0_part12_eq_skeleton, k0_part12_skel, k0_part11_eq_skeleton, k0_part11_skel, k0_part10_eq_skeleton, k0_part10_skel, k0_part9_eq_skeleton, k0_part9_skel, k0_part8_eq_skeleton, k0_part8_skel, k0_part7_eq_skeleton, k0_part7_skel, k0_part6_eq_skeleton, k0_part6_skel, k0_part5_eq_skeleton, k0_part5_skel, k0_part4_eq_skeleton, k0_part4_skel, k0_part3_eq_skeleton, k0_part3_skel, k0_part2_eq_skeleton, k0_part2_skel, k0_part1_eq_skeleton, k0_part1_skel]
  simp only [prologue, hops, hop, hopLast, sendSlot, waitSlots, computeF, computeB, blockAt]
  simp only [Prog.lift, Prog.bind_op, Prog.bind_ret, Prog.pure_eq_ret, Prog.bind_assoc]
  rfl

end Cert.Hop
-- ==== Proof.Protocol.lean ====
/-
The protocol of the two rings: the cells (semaphores of the devices), the rounds each goes through, what each round hands its
owner, and what every device owes at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.ShloMosaic.Lib.WritesUnit
public import proofs.«01_k».proof.Proof.Hops
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

/-- The slot of hop `h`: the one it sends from. It lands in the other one. -/
def sl (h : ℕ) : Fin 2 := ⟨h % 2, Nat.mod_lt _ (by decide)⟩

theorem oth_oth (s : Fin 2) : oth (oth s) = s := by revert s; decide
theorem oth_ne (s : Fin 2) : oth s ≠ s := by revert s; decide
theorem sl_succ (h : ℕ) : sl (h + 1) = oth (sl h) := by
  rcases Nat.mod_two_eq_zero_or_one h with e | e
  · have h1 : sl h = 0 := Fin.ext e
    have h2 : sl (h + 1) = 1 := Fin.ext (by show (h + 1) % 2 = 1; omega)
    rw [h1, h2]; rfl
  · have h1 : sl h = 1 := Fin.ext e
    have h2 : sl (h + 1) = 0 := Fin.ext (by show (h + 1) % 2 = 0; omega)
    rw [h1, h2]; rfl
theorem oth_sl_succ (h : ℕ) : oth (sl (h + 1)) = sl h := by rw [sl_succ, oth_oth]

/-- The barrier, and the semaphores of the forward sends, the forward receives, the backward sends and the backward receives. -/
abbrev barS : Sem sig := (SemArray.scalar (sig.barrier 0 rfl) : Sems sig S_).sem
abbrev fsS (s : Fin 2) : DmaSem sig := semOf cc0_scratch2 s
abbrev frS (s : Fin 2) : DmaSem sig := semOf cc0_scratch3 s
abbrev bsS (s : Fin 2) : DmaSem sig := semOf cc0_scratch4 s
abbrev brS (s : Fin 2) : DmaSem sig := semOf cc0_scratch5 s

abbrev barC (c : Dev nD) : GSem nD τ sig := ((c : Thread nD τ), .reg barS)
abbrev fsC (s : Fin 2) (c : Dev nD) : GSem nD τ sig := ((c : Thread nD τ), .dma (fsS s))
abbrev frC (s : Fin 2) (c : Dev nD) : GSem nD τ sig := ((c : Thread nD τ), .dma (frS s))
abbrev bsC (s : Fin 2) (c : Dev nD) : GSem nD τ sig := ((c : Thread nD τ), .dma (bsS s))
abbrev brC (s : Fin 2) (c : Dev nD) : GSem nD τ sig := ((c : Thread nD τ), .dma (brS s))

/-- The eight scoped semaphores of one device. -/
abbrev osem : Fin 4 × Fin 2 → SemLoc sig := fun ks => .dma (![fsS ks.2, frS ks.2, bsS ks.2, brS ks.2] ks.1)

/-- What a semaphore is: which of the four families, which slot. -/
def kindOf (q : SemLoc sig) : Option (Fin 4 × Fin 2) := (List.finRange 4 ×ˢ List.finRange 2).find? fun ks => osem ks = q

theorem kind_osem (ks : Fin 4 × Fin 2) : kindOf (osem ks) = some ks := by revert ks; decide
theorem kind_bar : kindOf (.reg barS) = none := by decide
theorem kind_fs (s : Fin 2) : kindOf (.dma (fsS s)) = some (0, s) := kind_osem (0, s)
theorem kind_fr (s : Fin 2) : kindOf (.dma (frS s)) = some (1, s) := kind_osem (1, s)
theorem kind_bs (s : Fin 2) : kindOf (.dma (bsS s)) = some (2, s) := kind_osem (2, s)
theorem kind_br (s : Fin 2) : kindOf (.dma (brS s)) = some (3, s) := kind_osem (3, s)

theorem osem_inj : Function.Injective osem := fun a b h => Option.some.inj ((kind_osem a).symm.trans ((congrArg kindOf h).trans (kind_osem b)))
theorem osem_ne_bar (ks : Fin 4 × Fin 2) : osem ks ≠ .reg barS := fun h => by cases h

/-- The credit of one slot. -/
def N : ℕ := (slotOf comF 0).view.dmaCredit
theorem N_pos : 0 < N := View.dmaCredit_pos _ (by decide)
theorem credit_f (s : Fin 2) : (slotOf comF s).view.dmaCredit = N := rfl
theorem credit_b (s : Fin 2) : (slotOf comB s).view.dmaCredit = N := rfl

/-! ## Slots -/

/-- Slot `s` of device `c`'s communication buffer `M`, at the array `x`; and at some array. -/
def sPts (M : Memref sig .tc .vmem S2x32x4096 .i32) (c : Dev nD) (s : Fin 2) (x : S32x4096.Idx → Elt F .i32) : sProp 𝕄 :=
  iprop(∃ f : Buf (Elt F) ((slotOf M s).view.loc (c : Thread nD τ)), ⌜(slotOf M s).view.read (Elt F) f = x⌝
    ∗ ((slotOf M s).view.loc (c : Thread nD τ) ↦[(slotOf M s).view.set]{fullShare} f))
def sAny (M : Memref sig .tc .vmem S2x32x4096 .i32) (c : Dev nD) (s : Fin 2) : sProp 𝕄 :=
  iprop(∃ f : Buf (Elt F) ((slotOf M s).view.loc (c : Thread nD τ)), (slotOf M s).view.loc (c : Thread nD τ) ↦[(slotOf M s).view.set]{fullShare} f)

instance sPts_storable (M) (c : Dev nD) (s x) : BI.Storable (upEmb : UEmb _ 𝕄) (sPts (F := F) M c s x) := by unfold sPts; infer_instance
instance sAny_storable (M) (c : Dev nD) (s) : BI.Storable (upEmb : UEmb _ 𝕄) (sAny (F := F) M c s) := by unfold sAny; infer_instance

theorem sPts_any (M) (c : Dev nD) (s x) : (sPts (F := F) M c s x) ⊢ sAny M c s := by
  unfold sPts sAny
  iintro ⟨%f, -, H⟩
  iexists f; iexact H

/-! ## The schedule -/

variable (X : Dev nD → S32x4096.Idx → Elt F .i32)

/-- The hop whose send is round `r` of a send cell of slot `s`, and whose arrival is round `r` of a receive cell of slot `s`. -/
def sendHop (s : Fin 2) (r : ℕ) : ℕ := 2 * r + s.val
def recvHop (s : Fin 2) (r : ℕ) : ℕ := 2 * r + (1 - s.val)

theorem sendHop_sl (h : ℕ) : sendHop (sl h) (h / 2) = h := by
  show 2 * (h / 2) + h % 2 = h; omega
theorem oth_val (s : Fin 2) : (oth s).val = 1 - s.val := by revert s; decide
theorem recvHop_sl (h : ℕ) : recvHop (oth (sl h)) (h / 2) = h := by
  unfold recvHop
  rw [oth_val]
  show 2 * (h / 2) + (1 - (1 - h % 2)) = h; omega

/-- What the next device's credit for the backward ring is: the slot of the previous device's backward buffer, free to be filled. -/
def freeB (c : Dev nD) (s : Fin 2) (r : ℕ) : sProp 𝕄 := iprop(sAny comB (prv c) s ∗ reached ER (brC s (prv c)) r)
/-- And for the forward ring: the slot of the next device's forward buffer. -/
def freeF (c : Dev nD) (s : Fin 2) (r : ℕ) : sProp 𝕄 := iprop(sAny comF (nxt c) s ∗ reached ER (frC s (nxt c)) r)

/-- The payload of round `r` of a cell of device `c`: the source slot back; the landed slot, with the right to send the other way. -/
def pay (ks : Fin 4 × Fin 2) (c : Dev nD) (r : ℕ) : sProp 𝕄 :=
  match ks with
  | (0, s) => sPts comF c s (X (prv^[sendHop s r] c))
  | (1, s) => iprop(sPts comF c s (X (prv^[recvHop s r + 1] c)) ∗ if 1 ≤ recvHop s r ∧ recvHop s r < 15 then freeB c s r else iprop(emp))
  | (2, s) => sPts comB c s (X (nxt^[sendHop s r] c))
  | (3, s) => iprop(sPts comB c s (X (nxt^[recvHop s r + 1] c)) ∗ freeF c (oth s) ((recvHop s r + 1) / 2))

/-- The hop of round `r`, and how many hops there are. -/
def hopOf (ks : Fin 4 × Fin 2) (r : ℕ) : ℕ := match ks with
  | (0, s) => sendHop s r
  | (1, s) => recvHop s r
  | (2, s) => sendHop s r
  | (3, s) => recvHop s r
def nHops : Fin 4 → ℕ := ![16, 16, 15, 15]

def Rd : Rounds.Schedule (GSem nD τ sig) Bool 𝕄 where
  duties g r := if g.1.2 = .tc then
      (match kindOf g.2 with
      | some ks => if hopOf ks r < nHops ks.1 then {false} else ∅
      | none => if r = 0 ∧ g.2 = .reg barS then Finset.univ else ∅)
    else ∅
  unitless _ := False
  amount g _ _ := if g.2 = .reg barS then 1 else N
  payload g r d := match kindOf g.2 with
    | some ks => pay X ks g.1.1 r
    | none => if d then freeB g.1.1 1 0 else freeF g.1.1 1 0
  amount_pos g _ _ _ := by
    by_cases h : g.2 = .reg barS
    · rw [if_pos h]; exact Nat.one_pos
    · rw [if_neg h]; exact N_pos

instance freeB_storable (c : Dev nD) (s r) : BI.Storable (upEmb : UEmb _ 𝕄) (freeB (F := F) c s r) := by unfold freeB; infer_instance
instance freeF_storable (c : Dev nD) (s r) : BI.Storable (upEmb : UEmb _ 𝕄) (freeF (F := F) c s r) := by unfold freeF; infer_instance
instance pay_storable (ks) (c : Dev nD) (r) : BI.Storable (upEmb : UEmb _ 𝕄) (pay X ks c r) := by
  obtain ⟨k, s⟩ := ks
  match k with
  | 0 => unfold pay; infer_instance
  | 1 => unfold pay; dsimp only; split <;> infer_instance
  | 2 => unfold pay; infer_instance
  | 3 => unfold pay; infer_instance
instance Rd_storable (g : GSem nD τ sig) (r : ℕ) (d : Bool) : BI.Storable (upEmb : UEmb _ 𝕄) ((Rd X).payload g r d) := by
  show BI.Storable upEmb (match kindOf g.2 with
    | some ks => pay X ks g.1.1 r
    | none => if d then freeB g.1.1 1 0 else freeF g.1.1 1 0)
  (repeat' split) <;> infer_instance

section Sched

variable (c : Dev nD)

theorem duties_bar : (Rd X).duties (barC c) 0 = Finset.univ := by
  dsimp only [Rd]; rw [if_pos rfl, kind_bar]; exact if_pos ⟨rfl, rfl⟩
theorem duties_bar_later : ∀ r, 1 ≤ r → (Rd X).duties (barC c) r = ∅ := fun r hr => by
  dsimp only [Rd]; rw [if_pos rfl, kind_bar]; exact if_neg fun h => by omega
theorem duties_of (ks : Fin 4 × Fin 2) (r : ℕ) (h : hopOf ks r < nHops ks.1) : (Rd X).duties ((c : Thread nD τ), osem ks) r = {false} := by
  dsimp only [Rd]; rw [if_pos rfl, kind_osem]; exact if_pos h
theorem duties_not (ks : Fin 4 × Fin 2) (r : ℕ) (h : ¬ hopOf ks r < nHops ks.1) : (Rd X).duties ((c : Thread nD τ), osem ks) r = ∅ := by
  dsimp only [Rd]; rw [if_pos rfl, kind_osem]; exact if_neg h
theorem amount_bar (r : ℕ) (d : Bool) : (Rd X).amount (barC c) r d = 1 := by dsimp only [Rd]; exact if_pos rfl
theorem amount_of (ks : Fin 4 × Fin 2) (r : ℕ) (d : Bool) : (Rd X).amount ((c : Thread nD τ), osem ks) r d = N := by
  dsimp only [Rd]; exact if_neg (osem_ne_bar ks)
theorem expect_bar : (Rd X).expect (barC c) 0 = 2 := by
  unfold Schedule.expect Schedule.amountOf
  rw [duties_bar, Finset.sum_congr rfl fun d _ => amount_bar X c 0 d, Finset.sum_const, Finset.card_univ, Fintype.card_bool, smul_eq_mul]
theorem expect_of (ks : Fin 4 × Fin 2) (r : ℕ) (h : hopOf ks r < nHops ks.1) : (Rd X).expect ((c : Thread nD τ), osem ks) r = N := by
  unfold Schedule.expect Schedule.amountOf; rw [duties_of X c ks r h, Finset.sum_singleton, amount_of]
theorem payload_of (ks : Fin 4 × Fin 2) (r : ℕ) (d : Bool) : (Rd X).payload ((c : Thread nD τ), osem ks) r d = pay X ks c r := by
  dsimp only [Rd]; rw [kind_osem]
theorem payload_bar_true : (Rd X).payload (barC c) 0 true = freeB c 1 0 := by
  dsimp only [Rd]; rw [kind_bar]; exact if_pos rfl
theorem payload_bar_false : (Rd X).payload (barC c) 0 false = freeF c 1 0 := by
  dsimp only [Rd]; rw [kind_bar]; exact if_neg Bool.false_ne_true
theorem rest_bar : bigSep ((Rd X).duties (barC c) 0 \ ∅) (fun d => (Rd X).payload (barC c) 0 d) = iprop(freeF c 1 0 ∗ freeB c 1 0) := by
  rw [Finset.sdiff_empty, duties_bar, bigSep_univ_eq_bigSepL [false, true] (by decide) (by decide), bigSepL_cons_cons, bigSepL_singleton,
    payload_bar_false, payload_bar_true]
  rfl
theorem rest_of (ks : Fin 4 × Fin 2) (r : ℕ) (h : hopOf ks r < nHops ks.1) :
    bigSep ((Rd X).duties ((c : Thread nD τ), osem ks) r \ ∅) (fun d => (Rd X).payload ((c : Thread nD τ), osem ks) r d) = pay X ks c r := by
  rw [Finset.sdiff_empty, duties_of X c ks r h, bigSep_singleton, payload_of]

/-- The hop of each cell's round. -/
theorem lt_fs {h : ℕ} (hh : h < 16) : hopOf (0, sl h) (h / 2) < nHops 0 := by show sendHop _ _ < 16; rw [sendHop_sl]; exact hh
theorem lt_fr {h : ℕ} (hh : h < 16) : hopOf (1, oth (sl h)) (h / 2) < nHops 1 := by show recvHop _ _ < 16; rw [recvHop_sl]; exact hh
theorem lt_bs {h : ℕ} (hh : h < 15) : hopOf (2, sl h) (h / 2) < nHops 2 := by show sendHop _ _ < 15; rw [sendHop_sl]; exact hh
theorem lt_br {h : ℕ} (hh : h < 15) : hopOf (3, oth (sl h)) (h / 2) < nHops 3 := by show recvHop _ _ < 15; rw [recvHop_sl]; exact hh

theorem pay_fs (h : ℕ) : pay X (0, sl h) c (h / 2) = sPts comF c (sl h) (X (prv^[h] c)) := by
  show sPts comF c (sl h) (X (prv^[sendHop (sl h) (h / 2)] c)) = _; rw [sendHop_sl]
theorem pay_fr (h : ℕ) : pay X (1, oth (sl h)) c (h / 2)
    = iprop(sPts comF c (oth (sl h)) (X (prv^[h + 1] c)) ∗ if 1 ≤ h ∧ h < 15 then freeB c (oth (sl h)) (h / 2) else iprop(emp)) := by
  show iprop(sPts comF c (oth (sl h)) (X (prv^[recvHop (oth (sl h)) (h / 2) + 1] c))
    ∗ if 1 ≤ recvHop (oth (sl h)) (h / 2) ∧ recvHop (oth (sl h)) (h / 2) < 15 then freeB c (oth (sl h)) (h / 2) else iprop(emp)) = _
  rw [recvHop_sl]
theorem pay_bs (h : ℕ) : pay X (2, sl h) c (h / 2) = sPts comB c (sl h) (X (nxt^[h] c)) := by
  show sPts comB c (sl h) (X (nxt^[sendHop (sl h) (h / 2)] c)) = _; rw [sendHop_sl]
theorem pay_br (h : ℕ) : pay X (3, oth (sl h)) c (h / 2)
    = iprop(sPts comB c (oth (sl h)) (X (nxt^[h + 1] c)) ∗ freeF c (sl h) ((h + 1) / 2)) := by
  show iprop(sPts comB c (oth (sl h)) (X (nxt^[recvHop (oth (sl h)) (h / 2) + 1] c))
    ∗ freeF c (oth (oth (sl h))) ((recvHop (oth (sl h)) (h / 2) + 1) / 2)) = _
  rw [recvHop_sl, oth_oth]

end Sched

/-! ## What each core owes; the levels -/

/-- From hop `n` on: the credits of the forward copies to the next device, and of the backward copies to the previous one. -/
def OF (c : Dev nD) (n : ℕ) : CellTallies nD τ sig ℕ := ∑ h ∈ Finset.Ico n 16, tallyAt (frC (oth (sl h)) (nxt c)) h N
def OB (c : Dev nD) (n : ℕ) : CellTallies nD τ sig ℕ := ∑ h ∈ Finset.Ico n 15, tallyAt (brC (oth (sl h)) (prv c)) h N
def O₂ (c : Dev nD) : CellTallies nD τ sig ℕ := OF c 0 + OB c 0
def O₁ (c : Dev nD) : CellTallies nD τ sig ℕ := O₂ c + tallyAt (barC (prv c)) 0 1
def O₀ (c : Dev nD) : CellTallies nD τ sig ℕ := O₁ c + tallyAt (barC (nxt c)) 0 1

theorem OF_succ (c : Dev nD) {n : ℕ} (h : n < 16) : OF c n = OF c (n + 1) + tallyAt (frC (oth (sl n)) (nxt c)) n N := by
  unfold OF; rw [Ring.sum_Ico_succ h, add_comm]
theorem OB_succ (c : Dev nD) {n : ℕ} (h : n < 15) : OB c n = OB c (n + 1) + tallyAt (brC (oth (sl n)) (prv c)) n N := by
  unfold OB; rw [Ring.sum_Ico_succ h, add_comm]
theorem OF_end (c : Dev nD) {n : ℕ} (h : 16 ≤ n) : OF c n = 0 := by unfold OF; rw [Finset.Ico_eq_empty (by omega), Finset.sum_empty]
theorem OB_end (c : Dev nD) {n : ℕ} (h : 15 ≤ n) : OB c n = 0 := by unfold OB; rw [Finset.Ico_eq_empty (by omega), Finset.sum_empty]

def L (g : GSem nD τ sig) : Finset ℕ := if g.1.2 = .tc then Finset.range 16 else ∅
def lv (g : GSem nD τ sig) (i : ℕ) : ℕ := match kindOf g.2 with
  | some (1, _) => 2 + 2 * i
  | some (3, _) => 3 + 2 * i
  | some _ => 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = Finset.range 16 := if_pos rfl
theorem lv_fr (s : Fin 2) (c : Dev nD) (i : ℕ) : lv (frC s c) i = 2 + 2 * i := by dsimp only [lv]; rw [kind_fr]; rfl
theorem lv_br (s : Fin 2) (c : Dev nD) (i : ℕ) : lv (brC s c) i = 3 + 2 * i := by dsimp only [lv]; rw [kind_br]; rfl
theorem lv_fs (s : Fin 2) (c : Dev nD) (i : ℕ) : lv (fsC s c) i = 0 := by dsimp only [lv]; rw [kind_fs]; rfl
theorem lv_bs (s : Fin 2) (c : Dev nD) (i : ℕ) : lv (bsC s c) i = 0 := by dsimp only [lv]; rw [kind_bs]; rfl
theorem lv_bar (c : Dev nD) (i : ℕ) : lv (barC c) i = 1 := by dsimp only [lv]; rw [kind_bar]; exact if_pos rfl

theorem OF_pos {c : Dev nD} {n : ℕ} {g : GSem nD τ sig} {i : ℕ} (h : 0 < OF c n g i) :
    n ≤ i ∧ i < 16 ∧ g = frC (oth (sl i)) (nxt c) := by
  unfold OF at h
  obtain ⟨k, hk, hp⟩ := Pipeline.sum_pos_exists h
  obtain ⟨rfl, rfl⟩ := Pipeline.tallyAt_pos hp
  exact ⟨(Finset.mem_Ico.mp hk).1, (Finset.mem_Ico.mp hk).2, rfl⟩
theorem OB_pos {c : Dev nD} {n : ℕ} {g : GSem nD τ sig} {i : ℕ} (h : 0 < OB c n g i) :
    n ≤ i ∧ i < 15 ∧ g = brC (oth (sl i)) (prv c) := by
  unfold OB at h
  obtain ⟨k, hk, hp⟩ := Pipeline.sum_pos_exists h
  obtain ⟨rfl, rfl⟩ := Pipeline.tallyAt_pos hp
  exact ⟨(Finset.mem_Ico.mp hk).1, (Finset.mem_Ico.mp hk).2, rfl⟩

/-- Owing the forward copies from `n` and the backward ones from `k`, a device may wait at a level below both. -/
theorem mayWait (c : Dev nD) (q : SemLoc sig) (i n k l : ℕ) (hi : i < 16) (hl : lv ((c : Thread nD τ), q) i ≤ l)
    (hn : l < 2 + 2 * n) (hk : l < 3 + 2 * k) :
    (levAts L lv : sProp 𝕄) ⊢ MayWait (c : Thread nD τ) q i (OF c n + OB c k) :=
  MayOwe.of_cut (L := L) (lev := lv) l (fun p hp => by rw [Finset.mem_singleton.mp hp, L_tc]; exact Finset.mem_range.mpr hi)
    (fun g u hg => by
      rcases Pipeline.add_pos_cases hg with hg | hg
      · obtain ⟨h1, h2, rfl⟩ := OF_pos hg; rw [L_tc]; exact Finset.mem_range.mpr h2
      · obtain ⟨h1, h2, rfl⟩ := OB_pos hg; rw [L_tc]; exact Finset.mem_range.mpr (by omega))
    (fun p hp => by rw [Finset.mem_singleton.mp hp]; exact hl)
    (fun g u hg => by
      rcases Pipeline.add_pos_cases hg with hg | hg
      · obtain ⟨h1, h2, rfl⟩ := OF_pos hg; rw [lv_fr]; omega
      · obtain ⟨h1, h2, rfl⟩ := OB_pos hg; rw [lv_br]; omega)

/-! ## The records every device consults -/

def barEmb : Dev nD ↪ GSem nD τ sig := ⟨fun c => barC c, fun _ _ h => congrArg (fun g : GSem nD τ sig => g.1.1) h⟩
def scEmb : Dev nD × (Fin 4 × Fin 2) ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem sc_mem (ks : Fin 4 × Fin 2) (c : Dev nD) : ((c : Thread nD τ), osem ks) ∈ (barCells ∪ scCells : Finset (GSem nD τ sig)) :=
  Finset.mem_union_right _ (Finset.mem_map_of_mem scEmb (Finset.mem_univ (c, ks)))

/-- All the invariants, under one map of names. -/
def invs (κ : GSem nD τ sig → ℕ) : sProp 𝕄 := bigSep (barCells ∪ scCells) fun g => cellInv ER (Rd X) (κ g) g
/-- Round 0 of every barrier cell reached. -/
def barReached : sProp 𝕄 := bigSep barCells fun g => reached ER g 0

instance invs_persistent (κ : GSem nD τ sig → ℕ) : BI.Persistent (invs X κ) := by unfold invs; infer_instance
instance barReached_persistent : BI.Persistent (barReached (F := F)) := by unfold barReached; infer_instance

theorem inv_bar (κ : GSem nD τ sig → ℕ) (c : Dev nD) : invs X κ ⊢ cellInv ER (Rd X) (κ (barC c)) (barC c) := bigSep_elim (bar_mem c)
theorem inv_sc (κ : GSem nD τ sig → ℕ) (ks : Fin 4 × Fin 2) (c : Dev nD) :
    invs X κ ⊢ cellInv ER (Rd X) (κ ((c : Thread nD τ), osem ks)) ((c : Thread nD τ), osem ks) := bigSep_elim (sc_mem ks c)
theorem reached_bar (c : Dev nD) : barReached (F := F) ⊢ reached ER (barC c) 0 :=
  bigSep_elim (Finset.mem_map_of_mem barEmb (Finset.mem_univ c))

end Cert.Hop
-- ==== Proof.Steps.lean ====
/-
The parts of a hop, run at a symbolic device: a copy to a neighbour, the wait on a cell, and the block multiplied out and stored.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.ShloMosaic.Lib.WritesUnit
public import proofs.«01_k».proof.Proof.Hops
public import proofs.«01_k».proof.Proof.Protocol
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- A core's program at its post. -/
abbrev wpC (c : Dev nD) {α : Type} (p : KProg F α) (Q : α → sProp 𝕄) : sProp 𝕄 :=
  wp frame (wpE (defs₀ (F := F)) 𝒱₀ (c : Thread nD τ) none) Set.univ p Q

/-! ## What the result is -/

/-- The packed words of a block as its rows of 8-bit numbers. -/
def rows (x : S32x4096.Idx → Elt F .i32) : FVec F S128x4096 .fp8e5m2 :=
  bitcastToFloat .fp8e5m2 (bitcast S128x4096 8 x bitcasts_S32x4096_w32_S128x4096_w8)

/-- One block of the result: the rows of the block times the weights, scaled, and multiplied by its own logistic. -/
def tile (v : F .f32) (x : S32x4096.Idx → Elt F .i32) (w : S4096x256.Idx → Elt F .fp8e5m2) : S128x256.Idx → Elt F .f32 := k0_pay6 v (rows x) w

/-- The device whose rows hold index `i`, and the index within its block. -/
def rowDev (i : S4096x256.Idx) : Dev nD := ⟨(i 0).val / 128, by have h : (i 0).val < 4096 := (i 0).isLt; show _ < 32; omega⟩
def inBlk (i : S4096x256.Idx) : S128x256.Idx := Fin.cons (⟨(i 0).val % 128, Nat.mod_lt _ (by decide)⟩ : Fin 128) (Fin.cons (⟨(i 1).val, (i 1).isLt⟩ : Fin 256) finZeroElim)

variable (X : Dev nD → S32x4096.Idx → Elt F .i32) (Wt : Dev nD → S4096x256.Idx → Elt F .fp8e5m2) (sc : Dev nD → F .f32)
  (Tf : Dev nD → S16.Idx → Elt F .i32) (Tb : Dev nD → S15.Idx → Elt F .i32)

def goal (c : Dev nD) : S4096x256.Idx → Elt F .f32 := fun i => tile (sc c) (X (rowDev i)) (Wt c) (inBlk i)

/-- A whole buffer of device `c`. -/
abbrev pt (c : Dev nD) (b : Ref sig .tc) (f : Buf (Elt F) ((c : Thread nD τ).loc b)) : sProp 𝕄 := iprop(((c : Thread nD τ).loc b) ↦{fullShare} f)

/-- The result's buffer, right on the rows of the devices in `D`. -/
def oSt (c : Dev nD) (D : Dev nD → Prop) : sProp 𝕄 :=
  iprop(∃ f : Buf (Elt F) ((c : Thread nD τ).loc cc0_stg7_0), ⌜∀ i : S4096x256.Idx, D (rowDev i) → f i = goal X Wt sc c i⌝ ∗ pt c cc0_stg7_0 f)

theorem chk3_dev : ∀ d : Dev nD, k0_chk3 (BitVec.ofNat 32 d.val) := by decide +kernel
theorem off2_dev : ∀ d : Dev nD, k0_off2 (BitVec.ofNat 32 d.val) = ![128 * d.val, 0] := by decide +kernel
theorem off1_dev : ∀ d : Dev nD, k0_off1 d = ![128 * d.val, 0] := by decide +kernel
theorem hz : (![0, 0] : Fin 2 → Nat) = fun _ => 0 := funext fun a => by fin_cases a <;> rfl

/-- A block stored at a device's rows: there the block, elsewhere what was. -/
theorem write_block (d : Dev nD) {off : Fin 2 → ℕ} (hoff : off = ![128 * d.val, 0]) (inb : ∀ a, off a + S128x256.size a ≤ S4096x256.size a)
    (f : S4096x256.Idx → Elt F .f32) (w : S128x256.Idx → Elt F .f32) (i : S4096x256.Idx) :
    (stO.access (Rect.unit (s := S4096x256) off S128x256.size inb)).write (Elt F) f w Finset.univ i
      = if rowDev i = d then w (inBlk i) else f i := by
  by_cases h : rowDev i = d
  · rw [if_pos h]
    have e := View.read_writes_cons_rows_of_mem (Val := Elt F) stO.view f inb w [] i (inBlk i) hoff
      (by subst h; show (i 0).val = 128 * ((i 0).val / 128) + (i 0).val % 128; omega) rfl
    simp only [Memref.view_whole, View.read_whole, View.writes_singleton, View.writes_nil] at e
    exact e
  · rw [if_neg h]
    have e := View.read_writes_cons_rows_of_not_mem (Val := Elt F) (W := 128) stO.view f inb w [] i hoff rfl
      (by
        by_contra hc
        exact h (Fin.ext (show (i 0).val / 128 = d.val by
          have h1 : ¬ (i 0).val < 128 * d.val := fun h => hc (.inl h)
          have h2 : ¬ 128 * d.val + 128 ≤ (i 0).val := fun h => hc (.inr h)
          omega)))
    simp only [Memref.view_whole, View.read_whole, View.writes_singleton, View.writes_nil] at e
    exact e

/-- One more device's rows right. -/
theorem oSt_step (c d : Dev nD) {off : Fin 2 → ℕ} (hoff : off = ![128 * d.val, 0]) (inb : ∀ a, off a + S128x256.size a ≤ S4096x256.size a)
    (D : Dev nD → Prop) (f : S4096x256.Idx → Elt F .f32) (hf : ∀ i, D (rowDev i) → f i = goal X Wt sc c i)
    (w : S128x256.Idx → Elt F .f32) (hw : w = tile (sc c) (X d) (Wt c)) (i : S4096x256.Idx) (hi : rowDev i = d ∨ D (rowDev i)) :
    (stO.access (Rect.unit (s := S4096x256) off S128x256.size inb)).write (Elt F) f w Finset.univ i = goal X Wt sc c i := by
  rw [write_block d hoff inb f w i]
  by_cases h : rowDev i = d
  · rw [if_pos h, hw]; subst h; rfl
  · rw [if_neg h]; exact hf i (hi.resolve_left h)

/-- The block multiplied out and stored. -/
theorem wp_blockAt (c d : Dev nD) (o : Elt F .i32) (ho : o = BitVec.ofNat 32 d.val) (l : Vec F S1x32x4096 .i32)
    (hl : shapeCast S32x4096 l shapeCasts_S1x32x4096_S32x4096 = X d) (D : Dev nD → Prop) (Kt : PUnit → sProp 𝕄) :
    iprop(pt c cc0_stg1_0 (Wt c) ∗ oSt X Wt sc c D
        ∗ ((pt c cc0_stg1_0 (Wt c) ∗ oSt X Wt sc c (fun e => e = d ∨ D e)) -∗ Kt ⟨⟩))
      ⊢ wpC c (blockAt (sc c) l o) Kt := by
  subst ho
  unfold wpC blockAt
  simp only [Prog.lift, Prog.bind_op, Prog.bind_ret, Prog.pure_eq_ret, Prog.bind_assoc]
  unfold oSt
  iintro ⟨Hw, ⟨%f, %hf, Ho⟩, Hk⟩
  iapply (wp_assume 𝒱₀ (c : Thread nD τ) none Set.univ (chk3_dev d))
  iapply (wp_load 𝒱₀ (c : Thread nD τ) none Set.univ (m := stW) (Finset.subset_univ _)) $$ Hw; iintro Hw
  rw [show stW.view.readAt (Elt F) wAll.toLoadRect (Wt c) = Wt c from Memref.readAt_unit_zero (Elt F) cc0_stg1_0 hz _ _]
  iapply (wp_load 𝒱₀ (c : Thread nD τ) none Set.univ (m := stO) (Finset.subset_univ _)) $$ Ho; iintro Ho
  iapply (wp_store 𝒱₀ (c : Thread nD τ) none Set.univ (m := stO) (r := Rect.unit (s := S4096x256) (k0_off2 (BitVec.ofNat 32 d.val)) S128x256.size (k0_off2_inb _ (chk3_dev d))) (Mk := Finset.univ) (Finset.subset_univ _)) $$ Ho; iintro Ho
  rw [wp_ret]; imodintro
  iapply Hk
  isplitl [Hw]; · iexact Hw
  iexists _
  isplitr
  swap; · iexact Ho
  ipureintro
  intro i hi
  exact oSt_step X Wt sc c d (off2_dev d) _ D f hf _ (by rw [← hl]; rfl) i hi

/-- What a block's rows are read from a slot and stored. -/
theorem slot_setOn (M : Memref sig .tc .vmem S2x32x4096 .i32) (s : Fin 2) : M.view.setOn (slotRect s).toLoadRect.set ⊆ (slotOf M s).view.set := by
  refine Finset.Subset.trans (Eq.subset ?_) (Eq.superset (Memref.set_view_squeeze _ _))
  exact (View.set_slice M.view (slotRect s)).symm

theorem wp_computeF (hTf : ∀ c i, Tf c i = BitVec.ofNat 32 (prv^[(i 0).val + 1] c).val) (c : Dev nD) {h : ℕ} (hh : h < 16) (s : Fin 2) (D : Dev nD → Prop) (Kt : PUnit → sProp 𝕄) :
    iprop(sPts comF c s (X (prv^[h + 1] c)) ∗ pt c cc0_stg5_0 (Tf c) ∗ pt c cc0_stg1_0 (Wt c) ∗ oSt X Wt sc c D
        ∗ ((sPts comF c s (X (prv^[h + 1] c)) ∗ pt c cc0_stg5_0 (Tf c) ∗ pt c cc0_stg1_0 (Wt c) ∗ oSt X Wt sc c (fun e => e = prv^[h + 1] c ∨ D e)) -∗ Kt ⟨⟩))
      ⊢ wpC c (computeF (sc c) s hh) Kt := by
  unfold wpC computeF sPts
  simp only [Prog.lift, smemLoad, Prog.bind_op, Prog.bind_ret, Prog.pure_eq_ret, Prog.bind_assoc]
  iintro ⟨⟨%f, %hf, Hx⟩, Ht, Hw, Ho, Hk⟩
  iapply (wp_load 𝒱₀ (c : Thread nD τ) none Set.univ (m := comF) (slot_setOn comF s)) $$ Hx; iintro Hx
  iapply (wp_smemLoadElt 𝒱₀ (c : Thread nD τ) none Set.univ (m := stF) (r := Rect.unit (s := S16) ![h] S1.size (inb_of hh)) (hw := View.loads_smem_one rfl numel1_S1) (Finset.subset_univ _)) $$ Ht; iintro Ht
  iapply (wp_blockAt X Wt sc c (prv^[h + 1] c) _ ?_ _ ?_ D Kt)
  rotate_left 2
  · isplitl [Hw]; · iexact Hw
    isplitl [Ho]; · iexact Ho
    iintro ⟨Hw, Ho⟩
    iapply Hk
    isplitl [Hx]; · iexists f; isplitr; · (ipureintro; exact hf)
                    iexact Hx
    isplitl [Ht]; · iexact Ht
    isplitl [Hw]; · iexact Hw
    iexact Ho
  · refine (hTf c _).trans ?_; rfl
  · exact hf

theorem wp_computeB (hTb : ∀ c i, Tb c i = BitVec.ofNat 32 (nxt^[(i 0).val + 1] c).val) (c : Dev nD) {h : ℕ} (hh : h < 15) (s : Fin 2) (D : Dev nD → Prop) (Kt : PUnit → sProp 𝕄) :
    iprop(sPts comB c s (X (nxt^[h + 1] c)) ∗ pt c cc0_stg6_0 (Tb c) ∗ pt c cc0_stg1_0 (Wt c) ∗ oSt X Wt sc c D
        ∗ ((sPts comB c s (X (nxt^[h + 1] c)) ∗ pt c cc0_stg6_0 (Tb c) ∗ pt c cc0_stg1_0 (Wt c) ∗ oSt X Wt sc c (fun e => e = nxt^[h + 1] c ∨ D e)) -∗ Kt ⟨⟩))
      ⊢ wpC c (computeB (sc c) s hh) Kt := by
  unfold wpC computeB sPts
  simp only [Prog.lift, smemLoad, Prog.bind_op, Prog.bind_ret, Prog.pure_eq_ret, Prog.bind_assoc]
  iintro ⟨⟨%f, %hf, Hx⟩, Ht, Hw, Ho, Hk⟩
  iapply (wp_load 𝒱₀ (c : Thread nD τ) none Set.univ (m := comB) (slot_setOn comB s)) $$ Hx; iintro Hx
  iapply (wp_smemLoadElt 𝒱₀ (c : Thread nD τ) none Set.univ (m := stB) (r := Rect.unit (s := S15) ![h] S1.size (inb_ob hh)) (hw := View.loads_smem_one rfl numel1_S1) (Finset.subset_univ _)) $$ Ht; iintro Ht
  iapply (wp_blockAt X Wt sc c (nxt^[h + 1] c) _ ?_ _ ?_ D Kt)
  rotate_left 2
  · isplitl [Hw]; · iexact Hw
    isplitl [Ho]; · iexact Ho
    iintro ⟨Hw, Ho⟩
    iapply Hk
    isplitl [Hx]; · iexists f; isplitr; · (ipureintro; exact hf)
                    iexact Hx
    isplitl [Ht]; · iexact Ht
    isplitl [Hw]; · iexact Hw
    iexact Ho
  · refine (hTb c _).trans ?_; rfl
  · exact hf

/-! ## The copies and the waits -/

/-- What rides with a forward copy: from hop 1 on, the backward slot it makes free, for the next device to fill. -/
def extraF (c : Dev nD) (h : ℕ) : sProp 𝕄 := if 1 ≤ h ∧ h < 15 then freeB (nxt c) (oth (sl h)) (h / 2) else iprop(emp)

/-- The forward copy of hop `h`. -/
theorem wp_sendF (κ : GSem nD τ sig → ℕ) (c : Dev nD) {h : ℕ} (hh : h < 16) (O' : CellTallies nD τ sig ℕ) (W : Waits sig ℕ) (Kt : PUnit → sProp 𝕄) :
    iprop(invs X κ ∗ sPts comF c (sl h) (X (prv^[h] c)) ∗ freeF c (oth (sl h)) (h / 2) ∗ extraF c h ∗ owes (c : Thread nD τ) (OF c h + O') W
        ∗ dutyTok ER (fsC (sl h) c) (h / 2) false ∗ reached ER (fsC (sl h) c) (h / 2) ∗ dutyTok ER (frC (oth (sl h)) (nxt c)) (h / 2) false
        ∗ ((cred (tallyAt (fsC (sl h) c) 0 N) ∗ owes (c : Thread nD τ) (OF c (h + 1) + O') W) -∗ Kt ⟨⟩))
      ⊢ wpC c (sendSlot comF cc0_scratch2 cc0_scratch3 (sl h) (nxt c)) Kt := by
  unfold wpC sendSlot freeF
  conv => lhs; unfold sPts sAny
  iintro ⟨#HI, ⟨%f, %hf, Hx⟩, ⟨⟨%fd, Hd⟩, #Hrd⟩, Hex, HO, Ht1, #Hr1, Ht2, Hk⟩
  iapply (Rounds.wp_send_pointsTo_with 𝒱₀ ER (Rd X) (c : Thread nD τ) none (c' := (nxt c : Thread nD τ)) (src := slotOf comF (sl h)) (dst := slotOf comF (oth (sl h)))
      (q := fullShare) (fs := f) (fd := fd) (F := extraF c h) (κ₁ := κ (fsC (sl h) c)) (κ₂ := κ (frC (oth (sl h)) (nxt c)))
      (r₁ := h / 2) (r₂ := h / 2) (d₁ := false) (d₂ := false) ?_ ?_ h 0 N rfl
      (amount_of X c (0, sl h) _ _) (amount_of X (nxt c) (1, oth (sl h)) _ _) (O₀ := OF c h + O') (OF c (h + 1) + O') ?_ ?_ ?_) $$ [Hx Hd Hex HO Ht1 Ht2]
  · exact (duties_of X c (0, sl h) _ (lt_fs hh)).symm ▸ Finset.mem_singleton_self _
  · exact (duties_of X (nxt c) (1, oth (sl h)) _ (lt_fr hh)).symm ▸ Finset.mem_singleton_self _
  · rw [OF_succ c hh, add_right_comm]; rfl
  · rw [payload_of X c (0, sl h), pay_fs]
    unfold sPts
    iintro H; iexists f; isplitr; · (ipureintro; exact hf)
    iexact H
  · rw [payload_of X (nxt c) (1, oth (sl h)), pay_fr]
    unfold extraF
    refine sep_mono_left ?_
    unfold sPts
    iintro H; iexists _; isplitr; swap; · iexact H
    ipureintro
    rw [View.read_write_univ, hf, Function.iterate_succ_apply, prv_nxt]
  · isplitr; · iapply (inv_sc X κ (0, sl h) c); iexact HI
    isplitr; · iapply (inv_sc X κ (1, oth (sl h)) (nxt c)); iexact HI
    isplitl [Hx]; · iexact Hx
    isplitl [Hd Hex]; · isplitl [Hd] <;> iassumption
    isplitl [HO]; · iexact HO
    isplitl [Ht1]; · iexact Ht1
    isplitr; · iexact Hr1
    isplitl [Ht2]; · iexact Ht2
    iexact Hrd
  iintro H
  rw [wp_ret]; imodintro
  iapply Hk; iexact H

/-- The backward copy of hop `h`: with it the forward slot the forward copy has left, for the previous device to fill. -/
theorem wp_sendB (κ : GSem nD τ sig → ℕ) (c : Dev nD) {h : ℕ} (hh : h < 15) (O' : CellTallies nD τ sig ℕ) (W : Waits sig ℕ) (Kt : PUnit → sProp 𝕄) :
    iprop(invs X κ ∗ sPts comB c (sl h) (X (nxt^[h] c)) ∗ freeB c (oth (sl h)) (h / 2) ∗ freeF (prv c) (sl h) ((h + 1) / 2) ∗ owes (c : Thread nD τ) (O' + OB c h) W
        ∗ dutyTok ER (bsC (sl h) c) (h / 2) false ∗ reached ER (bsC (sl h) c) (h / 2) ∗ dutyTok ER (brC (oth (sl h)) (prv c)) (h / 2) false
        ∗ ((cred (tallyAt (bsC (sl h) c) 0 N) ∗ owes (c : Thread nD τ) (O' + OB c (h + 1)) W) -∗ Kt ⟨⟩))
      ⊢ wpC c (sendSlot comB cc0_scratch4 cc0_scratch5 (sl h) (prv c)) Kt := by
  unfold wpC sendSlot freeB
  conv => lhs; unfold sPts sAny
  iintro ⟨#HI, ⟨%f, %hf, Hx⟩, ⟨⟨%fd, Hd⟩, #Hrd⟩, Hex, HO, Ht1, #Hr1, Ht2, Hk⟩
  iapply (Rounds.wp_send_pointsTo_with 𝒱₀ ER (Rd X) (c : Thread nD τ) none (c' := (prv c : Thread nD τ)) (src := slotOf comB (sl h)) (dst := slotOf comB (oth (sl h)))
      (q := fullShare) (fs := f) (fd := fd) (F := freeF (prv c) (sl h) ((h + 1) / 2)) (κ₁ := κ (bsC (sl h) c)) (κ₂ := κ (brC (oth (sl h)) (prv c)))
      (r₁ := h / 2) (r₂ := h / 2) (d₁ := false) (d₂ := false) ?_ ?_ h 0 N rfl
      (amount_of X c (2, sl h) _ _) (amount_of X (prv c) (3, oth (sl h)) _ _) (O₀ := O' + OB c h) (O' + OB c (h + 1)) ?_ ?_ ?_) $$ [Hx Hd Hex HO Ht1 Ht2]
  · exact (duties_of X c (2, sl h) _ (lt_bs hh)).symm ▸ Finset.mem_singleton_self _
  · exact (duties_of X (prv c) (3, oth (sl h)) _ (lt_br hh)).symm ▸ Finset.mem_singleton_self _
  · rw [OB_succ c hh, add_assoc]; rfl
  · rw [payload_of X c (2, sl h), pay_bs]
    unfold sPts
    iintro H; iexists f; isplitr; · (ipureintro; exact hf)
    iexact H
  · rw [payload_of X (prv c) (3, oth (sl h)), pay_br]
    refine sep_mono_left ?_
    unfold sPts
    iintro H; iexists _; isplitr; swap; · iexact H
    ipureintro
    rw [View.read_write_univ, hf, Function.iterate_succ_apply, nxt_prv]
  · isplitr; · iapply (inv_sc X κ (2, sl h) c); iexact HI
    isplitr; · iapply (inv_sc X κ (3, oth (sl h)) (prv c)); iexact HI
    isplitl [Hx]; · iexact Hx
    isplitl [Hd Hex]; · isplitl [Hd] <;> iassumption
    isplitl [HO]; · iexact HO
    isplitl [Ht1]; · iexact Ht1
    isplitr; · iexact Hr1
    isplitl [Ht2]; · iexact Ht2
    iexact Hrd
  iintro H
  rw [wp_ret]; imodintro
  iapply Hk; iexact H

/-- A wait on one of the scoped cells, for its round `r`: the position and the round advanced, and the round's payload. -/
theorem wp_wait (κ : GSem nD τ sig → ℕ) (c : Dev nD) (ks : Fin 4 × Fin 2) (q : DmaSem sig) (hq : osem ks = .dma q) (r : ℕ) (hr : hopOf ks r < nHops ks.1) (i : ℕ)
    (O : CellTallies nD τ sig ℕ) (W : Waits sig ℕ) {src dst : Memref sig .tc .vmem S32x4096 .i32} {hsrc : src.view.WordExact} {hdst : dst.view.WordExact}
    (hN : dst.view.dmaCredit = N) {α : Type} {Q : α → sProp 𝕄} {k : PUnit → KProg F α} :
    iprop(invs X κ ∗ cred (tallyAt ((c : Thread nD τ), .dma q) i N) ∗ owes (c : Thread nD τ) O W ∗ MayWait (c : Thread nD τ) (.dma q) i O
        ∗ atPos ER ((c : Thread nD τ), .dma q) r ∅ 0)
      ⊢ iprop(((owes (c : Thread nD τ) O (insert (.dma q, i) W) ∗ atPos ER ((c : Thread nD τ), .dma q) (r + 1) ∅ 0 ∗ reached ER ((c : Thread nD τ), .dma q) (r + 1)
            ∗ pay X ks c r) -∗ wpC c (k ⟨⟩) Q)
          -∗ wpC c (.op (.waitDma2 q src dst hsrc hdst) k) Q) := by
  rw [← hq]
  iintro ⟨#HI, Hc, HO, HM, Hat⟩ Hk
  unfold wpC
  iapply (Rounds.wp_wait_rest_token 𝒱₀ ER (Rd X) (c : Thread nD τ) none (κ := κ ((c : Thread nD τ), osem ks)) (sm := osem ks) (k' := N)
      (by rw [hq, ← hN]; exact wpE_waitDma2_eq 𝒱₀ (c : Thread nD τ) none Set.univ) (Set.mem_univ _) i (O := O) (W := W) (R := r) (m := 0) (T := ∅)
      (by rw [Nat.zero_add, expect_of X c ks r hr])) $$ [Hc HO HM Hat]
  · isplitr; · iapply (inv_sc X κ ks c); iexact HI
    isplitl [Hc]; · iexact Hc
    isplitl [HO]; · iexact HO
    isplitl [HM]; · iexact HM
    iexact Hat
  iintro ⟨HO, Hat, Hr, Hpay⟩
  iapply Hk
  isplitl [HO]; · iexact HO
  isplitl [Hat]; · iexact Hat
  isplitl [Hr]; · iexact Hr
  iapply (Entails.of_eq (rest_of X c ks r hr)); iexact Hpay

end Cert.Hop
-- ==== Proof.HopRun.lean ====
/-
One hop of the two rings at a symbolic device and hop number, the last hop, and the sixteen of them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.SL.BI.BigOpNat
public import Idealize.ShloMosaic.Lib.WritesUnit
public import proofs.«01_k».proof.Proof.Hops
public import proofs.«01_k».proof.Proof.Protocol
public import proofs.«01_k».proof.Proof.Steps
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → S32x4096.Idx → Elt F .i32) (Wt : Dev nD → S4096x256.Idx → Elt F .fp8e5m2) (sc : Dev nD → F .f32)
  (Tf : Dev nD → S16.Idx → Elt F .i32) (Tb : Dev nD → S15.Idx → Elt F .i32)

/-! ## What a device holds between hops -/

/-- The positions at a cell and at its sibling of the other slot. -/
def pos (A B : GSem nD τ sig) (r r' : ℕ) : sProp 𝕄 :=
  iprop(atPos ER A r ∅ 0 ∗ reached ER A r ∗ atPos ER B r' ∅ 0 ∗ reached ER B r')

/-- Before hop `h`, the backward slot that is not to be sent from: at hop 0 the previous device's, later its own. -/
def eB (c : Dev nD) (h : ℕ) : sProp 𝕄 := if h = 0 then freeB c (oth (sl h)) (h / 2) else sAny comB c (oth (sl h))
/-- After the forward exchange: the previous device's, up to the last hop. -/
def eB' (c : Dev nD) (h : ℕ) : sProp 𝕄 := if h < 15 then freeB c (oth (sl h)) (h / 2) else sAny comB c (oth (sl h))
/-- What of it does not ride with the forward copy. -/
def keepB (c : Dev nD) (h : ℕ) : sProp 𝕄 :=
  if h = 0 then freeB c (oth (sl h)) (h / 2) else if h < 15 then iprop(emp) else sAny comB c (oth (sl h))

theorem eB_split (c : Dev nD) (h : ℕ) : iprop(eB (F := F) c h ∗ reached ER (brC (oth (sl h)) c) (h / 2)) ⊢ iprop(extraF c h ∗ keepB c h) := by
  unfold eB extraF keepB
  by_cases h0 : h = 0
  · rw [if_pos h0, if_neg (by omega), if_pos h0]
    iintro ⟨H, -⟩
    isplitr; · iempintro
    iexact H
  · rw [if_neg h0, if_neg h0]
    by_cases h1 : h < 15
    · rw [if_pos ⟨by omega, h1⟩, if_pos h1]
      unfold freeB
      rw [prv_nxt]
      iintro ⟨H, #Hr⟩
      isplitl [H]
      · isplitl [H]; · iexact H
        iexact Hr
      · iempintro
    · rw [if_neg (by omega), if_neg h1]
      iintro ⟨H, -⟩
      isplitr; · iempintro
      iexact H

theorem keepB_join (c : Dev nD) (h : ℕ) : iprop(keepB (F := F) c h ∗ if 1 ≤ h ∧ h < 15 then freeB c (oth (sl h)) (h / 2) else iprop(emp)) ⊢ eB' c h := by
  unfold keepB eB'
  by_cases h0 : h = 0
  · rw [if_pos h0, if_pos (show h < 15 by omega)]
    iintro ⟨H, -⟩; iexact H
  · rw [if_neg h0]
    by_cases h1 : h < 15
    · rw [if_pos h1, if_pos ⟨by omega, h1⟩, if_pos h1]
      iintro ⟨-, H⟩; iexact H
    · rw [if_neg h1, if_neg h1]
      iintro ⟨H, -⟩; iexact H

/-- The tokens and the credit of hop `h` on the forward ring, and on the backward ring. -/
def tF (c : Dev nD) (h : ℕ) : sProp 𝕄 :=
  iprop(dutyTok ER (fsC (sl h) c) (h / 2) false ∗ dutyTok ER (frC (oth (sl h)) (nxt c)) (h / 2) false ∗ cred (tallyAt (frC (oth (sl h)) c) h N))
def tB (c : Dev nD) (h : ℕ) : sProp 𝕄 :=
  iprop(dutyTok ER (bsC (sl h) c) (h / 2) false ∗ dutyTok ER (brC (oth (sl h)) (prv c)) (h / 2) false ∗ cred (tallyAt (brC (oth (sl h)) c) h N))

/-- The positions at the cells of the forward ring before hop `h`; and of the backward ring. -/
def posF (c : Dev nD) (h : ℕ) : sProp 𝕄 :=
  iprop(pos (fsC (sl h) c) (fsC (oth (sl h)) c) (h / 2) ((h + 1) / 2) ∗ pos (frC (oth (sl h)) c) (frC (sl h) c) (h / 2) ((h + 1) / 2))
def posB (c : Dev nD) (h : ℕ) : sProp 𝕄 :=
  iprop(pos (bsC (sl h) c) (bsC (oth (sl h)) c) (h / 2) ((h + 1) / 2) ∗ pos (brC (oth (sl h)) c) (brC (sl h) c) (h / 2) ((h + 1) / 2))

/-- What it owes, with whatever it has waited on. -/
def owing (c : Dev nD) (O : CellTallies nD τ sig ℕ) : sProp 𝕄 := iprop(∃ W, owes (c : Thread nD τ) O W)

theorem posF_eq (c : Dev nD) (h : ℕ) : posF (F := F) c h = iprop((atPos ER (fsC (sl h) c) (h / 2) ∅ 0 ∗ reached ER (fsC (sl h) c) (h / 2)
    ∗ atPos ER (fsC (oth (sl h)) c) ((h + 1) / 2) ∅ 0 ∗ reached ER (fsC (oth (sl h)) c) ((h + 1) / 2))
    ∗ atPos ER (frC (oth (sl h)) c) (h / 2) ∅ 0 ∗ reached ER (frC (oth (sl h)) c) (h / 2)
    ∗ atPos ER (frC (sl h) c) ((h + 1) / 2) ∅ 0 ∗ reached ER (frC (sl h) c) ((h + 1) / 2)) := rfl
theorem posB_eq (c : Dev nD) (h : ℕ) : posB (F := F) c h = iprop((atPos ER (bsC (sl h) c) (h / 2) ∅ 0 ∗ reached ER (bsC (sl h) c) (h / 2)
    ∗ atPos ER (bsC (oth (sl h)) c) ((h + 1) / 2) ∅ 0 ∗ reached ER (bsC (oth (sl h)) c) ((h + 1) / 2))
    ∗ atPos ER (brC (oth (sl h)) c) (h / 2) ∅ 0 ∗ reached ER (brC (oth (sl h)) c) (h / 2)
    ∗ atPos ER (brC (sl h) c) ((h + 1) / 2) ∅ 0 ∗ reached ER (brC (sl h) c) ((h + 1) / 2)) := rfl
theorem tF_eq (c : Dev nD) (h : ℕ) : tF (F := F) c h = iprop(dutyTok ER (fsC (sl h) c) (h / 2) false
    ∗ dutyTok ER (frC (oth (sl h)) (nxt c)) (h / 2) false ∗ cred (tallyAt (frC (oth (sl h)) c) h N)) := rfl
theorem tB_eq (c : Dev nD) (h : ℕ) : tB (F := F) c h = iprop(dutyTok ER (bsC (sl h) c) (h / 2) false
    ∗ dutyTok ER (brC (oth (sl h)) (prv c)) (h / 2) false ∗ cred (tallyAt (brC (oth (sl h)) c) h N)) := rfl
theorem owing_eq (c : Dev nD) (O : CellTallies nD τ sig ℕ) : owing (F := F) c O = iprop(∃ W, owes (c : Thread nD τ) O W) := rfl
theorem eB'_lt (c : Dev nD) {h : ℕ} (hh : h < 15) : eB' (F := F) c h = freeB c (oth (sl h)) (h / 2) := if_pos hh

/-- The forward exchange of hop `h`: the copy out, its source back, and what the previous device sent. -/
theorem wp_exchF (κ : GSem nD τ sig → ℕ) (c : Dev nD) {h : ℕ} (hh : h < 16) (Kt : PUnit → sProp 𝕄) :
    iprop(invs X κ ∗ levAts L lv ∗ sPts comF c (sl h) (X (prv^[h] c)) ∗ freeF c (oth (sl h)) (h / 2) ∗ (eB c h ∗ reached ER (brC (oth (sl h)) c) (h / 2))
        ∗ posF c h ∗ tF c h ∗ owing c (OF c h + OB c h)
        ∗ ((sPts comF c (sl h) (X (prv^[h] c)) ∗ sPts comF c (oth (sl h)) (X (prv^[h + 1] c)) ∗ eB' c h ∗ posF c (h + 1) ∗ owing c (OF c (h + 1) + OB c h)) -∗ Kt ⟨⟩))
      ⊢ wpC c (sendSlot comF cc0_scratch2 cc0_scratch3 (sl h) (nxt c) >>= fun _ => waitSlots comF cc0_scratch2 cc0_scratch3 (sl h)) Kt := by
  unfold wpC
  rw [wp_bind]
  unfold owing posF tF pos
  iintro ⟨#HI, #HL, Hx, Hd, He, ⟨⟨HaS, #HrS, HaS', #HrS'⟩, HaR, #HrR, HaR', #HrR'⟩, ⟨HtS, HtR, Hc⟩, ⟨%W, HO⟩, Hk⟩
  ihave He2 := (eB_split c h) $$ He
  icases He2 with ⟨Hex, Hkeep⟩
  iapply (wp_sendF X κ c hh (OB c h) W)
  isplitr; · iexact HI
  isplitl [Hx]; · iexact Hx
  isplitl [Hd]; · iexact Hd
  isplitl [Hex]; · iexact Hex
  isplitl [HO]; · iexact HO
  isplitl [HtS]; · iexact HtS
  isplitr; · iexact HrS
  isplitl [HtR]; · iexact HtR
  iintro ⟨HcS, HO⟩
  unfold waitSlots
  simp only [Prog.lift, Prog.bind_op, Prog.bind_ret, Prog.pure_eq_ret, Prog.bind_assoc]
  iapply (wp_wait X κ c (0, sl h) (fsS (sl h)) rfl (h / 2) (lt_fs hh) 0 (OF c (h + 1) + OB c h) W (src := slotOf comF (oth (sl h))) (dst := slotOf comF (sl h)) (hsrc := (View.wordExact_bits rfl).reshape _ _) (hdst := (View.wordExact_bits rfl).reshape _ _) rfl) $$ [HcS HO HaS]
  · isplitr; · iexact HI
    isplitl [HcS]; · iexact HcS
    isplitl [HO]; · iexact HO
    isplitr
    · iapply (mayWait c (.dma (fsS (sl h))) 0 (h + 1) h 0 (by decide) (lv_fs (sl h) c 0).le (by omega) (by omega)); iexact HL
    iexact HaS
  iintro ⟨HO, HaS, #HrS2, Hx⟩
  iapply (wp_wait X κ c (1, oth (sl h)) (frS (oth (sl h))) rfl (h / 2) (lt_fr hh) h (OF c (h + 1) + OB c h) _ (src := slotOf comF (sl h)) (dst := slotOf comF (oth (sl h))) (hsrc := (View.wordExact_bits rfl).reshape _ _) (hdst := (View.wordExact_bits rfl).reshape _ _) rfl) $$ [Hc HO HaR]
  · isplitr; · iexact HI
    isplitl [Hc]; · iexact Hc
    isplitl [HO]; · iexact HO
    isplitr
    · iapply (mayWait c (.dma (frS (oth (sl h)))) h (h + 1) h (2 + 2 * h) hh (lv_fr (oth (sl h)) c h).le (by omega) (by omega)); iexact HL
    iexact HaR
  iintro ⟨HO, HaR, #HrR2, Hy⟩
  ihave Hx := (Entails.of_eq (pay_fs X c h)) $$ Hx
  ihave Hy := (Entails.of_eq (pay_fr X c h)) $$ Hy
  icases Hy with ⟨Hy, Hf⟩
  ihave Hf := (keepB_join c h) $$ [Hkeep Hf]
  · isplitl [Hkeep] <;> iassumption
  unfold wpC
  rw [wp_ret]; imodintro
  iapply Hk
  isplitl [Hx]; · iexact Hx
  isplitl [Hy]; · iexact Hy
  isplitl [Hf]; · iexact Hf
  isplitl [HaS HaS' HaR HaR']
  · rw [sl_succ, oth_oth, show (h + 1 + 1) / 2 = h / 2 + 1 by omega]
    isplitl [HaS HaS']
    · isplitl [HaS']; · iexact HaS'
      isplitr; · iexact HrS'
      isplitl [HaS]; · iexact HaS
      iexact HrS2
    · isplitl [HaR']; · iexact HaR'
      isplitr; · iexact HrR'
      isplitl [HaR]; · iexact HaR
      iexact HrR2
  iexists _; iexact HO

/-- What a device holds before hop `h`. -/
def St (c : Dev nD) (h : ℕ) : sProp 𝕄 :=
  iprop(sPts comF c (sl h) (X (prv^[h] c)) ∗ sPts comB c (sl h) (X (nxt^[h] c)) ∗ freeF c (oth (sl h)) (h / 2) ∗ eB c h
    ∗ posF c h ∗ posB c h ∗ bigSep (Finset.Ico h 16) (tF c) ∗ bigSep (Finset.Ico h 15) (tB c) ∗ owing c (OF c h + OB c h))

/-- The buffers a hop reads. -/
def ins (c : Dev nD) : sProp 𝕄 := iprop(pt c cc0_stg5_0 (Tf c) ∗ pt c cc0_stg6_0 (Tb c) ∗ pt c cc0_stg1_0 (Wt c))

theorem ins_eq (c : Dev nD) : ins Wt Tf Tb c = iprop(pt c cc0_stg5_0 (Tf c) ∗ pt c cc0_stg6_0 (Tb c) ∗ pt c cc0_stg1_0 (Wt c)) := rfl

/-- One hop with both rings. -/
theorem wp_hop (hTf : ∀ c i, Tf c i = BitVec.ofNat 32 (prv^[(i 0).val + 1] c).val) (hTb : ∀ c i, Tb c i = BitVec.ofNat 32 (nxt^[(i 0).val + 1] c).val)
    (κ : GSem nD τ sig → ℕ) (c : Dev nD) {h : ℕ} (hh : h < 15) (D : Dev nD → Prop) (Kt : PUnit → sProp 𝕄) :
    iprop(invs X κ ∗ levAts L lv ∗ St X c h ∗ ins Wt Tf Tb c ∗ oSt X Wt sc c D
        ∗ ((St X c (h + 1) ∗ ins Wt Tf Tb c ∗ oSt X Wt sc c (fun e => e = nxt^[h + 1] c ∨ e = prv^[h + 1] c ∨ D e)) -∗ Kt ⟨⟩))
      ⊢ wpC c (hop (nxt c) (prv c) (sc c) (sl h) hh) Kt := by
  have e : hop (F := F) (nxt c) (prv c) (sc c) (sl h) hh = ((sendSlot comF cc0_scratch2 cc0_scratch3 (sl h) (nxt c) >>= fun _ => waitSlots comF cc0_scratch2 cc0_scratch3 (sl h))
      >>= fun _ => sendSlot comB cc0_scratch4 cc0_scratch5 (sl h) (prv c) >>= fun _ => computeF (sc c) (oth (sl h)) (Nat.lt_succ_of_lt hh)
      >>= fun _ => waitSlots comB cc0_scratch4 cc0_scratch5 (sl h) >>= fun _ => computeB (sc c) (oth (sl h)) hh) := by
    unfold hop; rw [Prog.bind_assoc]
  rw [e]
  unfold wpC
  rw [wp_bind]
  unfold St
  rw [bigSep_Ico_succ_bot (show h < 16 by omega) (tF c), bigSep_Ico_succ_bot hh (tB c)]
  iintro ⟨#HI, #HL, ⟨Hx, Hb, Hd, He, HpF, HpB, ⟨HtF, HtFs⟩, ⟨HtB, HtBs⟩, HO⟩, Hi, Ho, Hk⟩
  ihave HpB := (Entails.of_eq (posB_eq c h)) $$ HpB
  icases HpB with ⟨⟨HaS, #HrS, HaS', #HrS'⟩, HaR, #HrR, HaR', #HrR'⟩
  -- the own receive cell's round: for the previous device's next forward copy
  iapply (wp_exchF X κ c (Nat.lt_succ_of_lt hh))
  isplitr; · iexact HI
  isplitr; · iexact HL
  isplitl [Hx]; · iexact Hx
  isplitl [Hd]; · iexact Hd
  isplitl [He]; · isplitl [He]; · iexact He
                  iexact HrR
  isplitl [HpF]; · iexact HpF
  isplitl [HtF]; · iexact HtF
  isplitl [HO]; · iexact HO
  iintro ⟨Hx, Hy, Hf, HpF, HO⟩
  ihave Hf := (Entails.of_eq (eB'_lt c hh)) $$ Hf
  ihave HpF := (Entails.of_eq (posF_eq c (h + 1))) $$ HpF
  ihave HtB := (Entails.of_eq (tB_eq c h)) $$ HtB
  ihave HO := (Entails.of_eq (owing_eq c _)) $$ HO
  rw [wp_bind]
  icases HpF with ⟨⟨HfS, #HqS, HfS', #HqS'⟩, HfR, #HqR, HfR', #HqR'⟩
  icases HtB with ⟨HtS, HtR, Hc⟩
  icases HO with ⟨%W, HO⟩
  iapply (wp_sendB X κ c hh (OF c (h + 1)) W)
  isplitr; · iexact HI
  isplitl [Hb]; · iexact Hb
  isplitl [Hf]; · iexact Hf
  isplitl [Hx]
  · unfold freeF
    rw [nxt_prv]
    isplitl [Hx]; · iapply (sPts_any comF c (sl h) _); iexact Hx
    rw [sl_succ]
    rw [oth_oth]
    iexact HqR
  isplitl [HO]; · iexact HO
  isplitl [HtS]; · iexact HtS
  isplitr; · iexact HrS
  isplitl [HtR]; · iexact HtR
  iintro ⟨HcS, HO⟩
  rw [wp_bind]
  ihave Hi := (Entails.of_eq (ins_eq Wt Tf Tb c)) $$ Hi
  icases Hi with ⟨Htf, Htb, Hw⟩
  iapply (wp_computeF X Wt sc Tf hTf c (Nat.lt_succ_of_lt hh) (oth (sl h)) D)
  isplitl [Hy]; · iexact Hy
  isplitl [Htf]; · iexact Htf
  isplitl [Hw]; · iexact Hw
  isplitl [Ho]; · iexact Ho
  iintro ⟨Hy, Htf, Hw, Ho⟩
  unfold waitSlots
  simp only [Prog.lift, Prog.bind_op, Prog.bind_ret, Prog.pure_eq_ret, Prog.bind_assoc]
  iapply (wp_wait X κ c (2, sl h) (bsS (sl h)) rfl (h / 2) (lt_bs hh) 0 (OF c (h + 1) + OB c (h + 1)) W (src := slotOf comB (oth (sl h))) (dst := slotOf comB (sl h)) (hsrc := (View.wordExact_bits rfl).reshape _ _) (hdst := (View.wordExact_bits rfl).reshape _ _) rfl) $$ [HcS HO HaS]
  · isplitr; · iexact HI
    isplitl [HcS]; · iexact HcS
    isplitl [HO]; · iexact HO
    isplitr
    · iapply (mayWait c (.dma (bsS (sl h))) 0 (h + 1) (h + 1) 0 (by decide) (lv_bs (sl h) c 0).le (by omega) (by omega)); iexact HL
    iexact HaS
  iintro ⟨HO, HaS, #HrS2, Hb⟩
  iapply (wp_wait X κ c (3, oth (sl h)) (brS (oth (sl h))) rfl (h / 2) (lt_br hh) h (OF c (h + 1) + OB c (h + 1)) _ (src := slotOf comB (sl h)) (dst := slotOf comB (oth (sl h))) (hsrc := (View.wordExact_bits rfl).reshape _ _) (hdst := (View.wordExact_bits rfl).reshape _ _) rfl) $$ [Hc HO HaR]
  · isplitr; · iexact HI
    isplitl [Hc]; · iexact Hc
    isplitl [HO]; · iexact HO
    isplitr
    · iapply (mayWait c (.dma (brS (oth (sl h)))) h (h + 1) (h + 1) (3 + 2 * h) (by omega) (lv_br (oth (sl h)) c h).le (by omega) (by omega)); iexact HL
    iexact HaR
  iintro ⟨HO, HaR, #HrR2, Hz⟩
  ihave Hb := (Entails.of_eq (pay_bs X c h)) $$ Hb
  ihave Hz := (Entails.of_eq (pay_br X c h)) $$ Hz
  icases Hz with ⟨Hz, Hd⟩
  iapply (wp_computeB X Wt sc Tb hTb c hh (oth (sl h)) _ Kt)
  isplitl [Hz]; · iexact Hz
  isplitl [Htb]; · iexact Htb
  isplitl [Hw]; · iexact Hw
  isplitl [Ho]; · iexact Ho
  iintro ⟨Hz, Htb, Hw, Ho⟩
  iapply Hk
  isplitr [Htf Htb Hw Ho]
  · rw [sl_succ, oth_oth]
    isplitl [Hy]; · iexact Hy
    isplitl [Hz]; · iexact Hz
    isplitl [Hd]; · iexact Hd
    isplitl [Hb]
    · unfold eB
      rw [if_neg (Nat.succ_ne_zero h), sl_succ, oth_oth]
      iapply (sPts_any comB c (sl h) _); iexact Hb
    isplitl [HfS HfS' HfR HfR']
    · unfold posF pos
      rw [sl_succ, oth_oth]
      isplitl [HfS HfS']
      · isplitl [HfS]; · iexact HfS
        isplitr; · iexact HqS
        isplitl [HfS']; · iexact HfS'
        iexact HqS'
      · isplitl [HfR]; · iexact HfR
        isplitr; · iexact HqR
        isplitl [HfR']; · iexact HfR'
        iexact HqR'
    isplitl [HaS HaS' HaR HaR']
    · unfold posB pos
      rw [sl_succ, oth_oth, show (h + 1 + 1) / 2 = h / 2 + 1 by omega]
      isplitl [HaS HaS']
      · isplitl [HaS']; · iexact HaS'
        isplitr; · iexact HrS'
        isplitl [HaS]; · iexact HaS
        iexact HrS2
      · isplitl [HaR']; · iexact HaR'
        isplitr; · iexact HrR'
        isplitl [HaR]; · iexact HaR
        iexact HrR2
    isplitl [HtFs]; · iexact HtFs
    isplitl [HtBs]; · iexact HtBs
    unfold owing
    iexists _; iexact HO
  isplitl [Htf Htb Hw]
  · unfold ins
    isplitl [Htf]; · iexact Htf
    isplitl [Htb]; · iexact Htb
    iexact Hw
  iexact Ho

end Cert.Hop
-- ==== Proof.HopsRun.lean ====
/-
The whole body at a symbolic device: the barrier and the own block, the sixteen hops, and the cells closed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.SL.BI.BigOpNat
public import Idealize.ShloMosaic.Lib.WritesUnit
public import proofs.«01_k».proof.Proof.Hops
public import proofs.«01_k».proof.Proof.Protocol
public import proofs.«01_k».proof.Proof.HopRun
public import proofs.«01_k».proof.Proof.Steps
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → S32x4096.Idx → Elt F .i32) (Wt : Dev nD → S4096x256.Idx → Elt F .fp8e5m2) (sc : Dev nD → F .f32)
  (Tf : Dev nD → S16.Idx → Elt F .i32) (Tb : Dev nD → S15.Idx → Elt F .i32)
  (sx sw : Dev nD → S1.Idx → Elt F .f32) (nb : Dev nD → S2.Idx → Elt F .i32)

/-! ## The hops in a row -/

/-- The devices whose rows are right before hop `h`. -/
def done (c : Dev nD) (h : ℕ) : Dev nD → Prop := fun e => e = c ∨ ∃ j < h, e = prv^[j + 1] c ∨ e = nxt^[j + 1] c

theorem oSt_mono (c : Dev nD) {D D' : Dev nD → Prop} (h : ∀ e, D' e → D e) : oSt X Wt sc c D ⊢ oSt X Wt sc c D' := by
  unfold oSt
  iintro ⟨%f, %hf, H⟩
  iexists f
  isplitr; · ipureintro; exact fun i hi => hf i (h _ hi)
  iexact H

/-- What a device holds before hop `h`, with the result's buffer. -/
def stage (c : Dev nD) (h : ℕ) : sProp 𝕄 := iprop(St X c h ∗ ins Wt Tf Tb c ∗ oSt X Wt sc c (done c h))

theorem lt15 (h : ℕ) (e : decide (h < 15) = true) : h < 15 := of_decide_eq_true e

section Run

variable (hTf : ∀ c i, Tf c i = BitVec.ofNat 32 (prv^[(i 0).val + 1] c).val) (hTb : ∀ c i, Tb c i = BitVec.ofNat 32 (nxt^[(i 0).val + 1] c).val)

theorem done_succ (c : Dev nD) (h : ℕ) (e : Dev nD) (he : done c (h + 1) e) : e = nxt^[h + 1] c ∨ e = prv^[h + 1] c ∨ done c h e := by
  rcases he with he | ⟨j, hj, he⟩
  · exact .inr (.inr (.inl he))
  · rcases Nat.lt_succ_iff_lt_or_eq.mp hj with hj | rfl
    · exact .inr (.inr (.inr ⟨j, hj, he⟩))
    · rcases he with he | he
      · exact .inr (.inl he)
      · exact .inl he

include hTf hTb in
theorem wp_stage (κ : GSem nD τ sig → ℕ) (c : Dev nD) {h : ℕ} (hh : h < 15) (Kt : PUnit → sProp 𝕄) :
    iprop(invs X κ ∗ levAts L lv ∗ stage X Wt sc Tf Tb c h ∗ (stage X Wt sc Tf Tb c (h + 1) -∗ Kt ⟨⟩))
      ⊢ wpC c (hop (nxt c) (prv c) (sc c) (sl h) hh) Kt := by
  unfold stage
  iintro ⟨#HI, #HL, ⟨HS, Hi, Ho⟩, Hk⟩
  iapply (wp_hop X Wt sc Tf Tb hTf hTb κ c hh (done c h) Kt)
  isplitr; · iexact HI
  isplitr; · iexact HL
  isplitl [HS]; · iexact HS
  isplitl [Hi]; · iexact Hi
  isplitl [Ho]; · iexact Ho
  iintro ⟨HS, Hi, Ho⟩
  iapply Hk
  isplitl [HS]; · iexact HS
  isplitl [Hi]; · iexact Hi
  iapply (oSt_mono X Wt sc c (done_succ c h))
  iexact Ho

/-- After the last hop: the slots, the positions at the ends of the cells, nothing owed. -/
def ended (c : Dev nD) : sProp 𝕄 :=
  iprop((sAny comF c (sl 15) ∗ sAny comF c (oth (sl 15))) ∗ (sAny comB c (sl 15) ∗ sAny comB c (oth (sl 15))) ∗ posF c 16 ∗ posB c 15 ∗ owing c 0)

include hTf in
theorem wp_last (κ : GSem nD τ sig → ℕ) (c : Dev nD) (Kt : PUnit → sProp 𝕄) :
    iprop(invs X κ ∗ levAts L lv ∗ stage X Wt sc Tf Tb c 15
        ∗ ((ended c ∗ ins Wt Tf Tb c ∗ oSt X Wt sc c (fun e => e = prv^[16] c ∨ done c 15 e)) -∗ Kt ⟨⟩))
      ⊢ wpC c (hopLast (nxt c) (sc c)) Kt := by
  have e : hopLast (F := F) (nxt c) (sc c) = ((sendSlot comF cc0_scratch2 cc0_scratch3 (sl 15) (nxt c) >>= fun _ => waitSlots comF cc0_scratch2 cc0_scratch3 (sl 15))
      >>= fun _ => computeF (sc c) (oth (sl 15)) (h := 15) (by decide)) := by
    unfold hopLast; rw [Prog.bind_assoc]; rfl
  rw [e]
  unfold wpC
  rw [wp_bind]
  unfold stage St
  rw [bigSep_Ico_succ_bot (show 15 < 16 by omega) (tF c)]
  iintro ⟨#HI, #HL, ⟨⟨Hx, Hb, Hd, He, HpF, HpB, ⟨HtF, -⟩, -, HO⟩, Hi, Ho⟩, Hk⟩
  ihave HpB := (Entails.of_eq (posB_eq c 15)) $$ HpB
  icases HpB with ⟨⟨HaS, #HrS, HaS', #HrS'⟩, HaR, #HrR, HaR', #HrR'⟩
  iapply (wp_exchF X κ c (Nat.lt_succ_self 15))
  isplitr; · iexact HI
  isplitr; · iexact HL
  isplitl [Hx]; · iexact Hx
  isplitl [Hd]; · iexact Hd
  isplitl [He]; · isplitl [He]; · iexact He
                  iexact HrR
  isplitl [HpF]; · iexact HpF
  isplitl [HtF]; · iexact HtF
  isplitl [HO]; · iexact HO
  iintro ⟨Hx, Hy, Hf, HpF, HO⟩
  ihave Hi := (Entails.of_eq (ins_eq Wt Tf Tb c)) $$ Hi
  icases Hi with ⟨Htf, Htb, Hw⟩
  iapply (wp_computeF X Wt sc Tf hTf c (Nat.lt_succ_self 15) (oth (sl 15)) (done c 15))
  isplitl [Hy]; · iexact Hy
  isplitl [Htf]; · iexact Htf
  isplitl [Hw]; · iexact Hw
  isplitl [Ho]; · iexact Ho
  iintro ⟨Hy, Htf, Hw, Ho⟩
  iapply Hk
  unfold ended
  isplitr [Htf Htb Hw Ho]
  · isplitl [Hx Hy]
    · isplitl [Hx]
      · iapply (sPts_any comF c (sl 15) _); iexact Hx
      · iapply (sPts_any comF c (oth (sl 15)) _); iexact Hy
    isplitl [Hb Hf]
    · isplitl [Hb]
      · iapply (sPts_any comB c (sl 15) _); iexact Hb
      · iapply (Entails.of_eq (show eB' (F := F) c 15 = sAny comB c (oth (sl 15)) from if_neg (by decide))); iexact Hf
    isplitl [HpF]; · iexact HpF
    isplitl [HaS HaS' HaR HaR']
    · unfold posB pos
      isplitl [HaS HaS']
      · isplitl [HaS]; · iexact HaS
        isplitr; · iexact HrS
        isplitl [HaS']; · iexact HaS'
        iexact HrS'
      · isplitl [HaR]; · iexact HaR
        isplitr; · iexact HrR
        isplitl [HaR']; · iexact HaR'
        iexact HrR'
    rw [OF_end c (n := 15 + 1) (by decide), OB_end c (n := 15) (by decide), add_zero]
    iexact HO
  isplitl [Htf Htb Hw]
  · unfold ins
    isplitl [Htf]; · iexact Htf
    isplitl [Htb]; · iexact Htb
    iexact Hw
  iexact Ho

theorem hops_eq (rt lt : Dev nD) (v : F .f32) : hops (F := F) (rt, lt, v) = (do
    hop rt lt v (sl 0) (h := 0) (by decide)
    hop rt lt v (sl 1) (h := 1) (by decide)
    hop rt lt v (sl 2) (h := 2) (by decide)
    hop rt lt v (sl 3) (h := 3) (by decide)
    hop rt lt v (sl 4) (h := 4) (by decide)
    hop rt lt v (sl 5) (h := 5) (by decide)
    hop rt lt v (sl 6) (h := 6) (by decide)
    hop rt lt v (sl 7) (h := 7) (by decide)
    hop rt lt v (sl 8) (h := 8) (by decide)
    hop rt lt v (sl 9) (h := 9) (by decide)
    hop rt lt v (sl 10) (h := 10) (by decide)
    hop rt lt v (sl 11) (h := 11) (by decide)
    hop rt lt v (sl 12) (h := 12) (by decide)
    hop rt lt v (sl 13) (h := 13) (by decide)
    hop rt lt v (sl 14) (h := 14) (by decide)
    hopLast rt v) := rfl

/-- After every hop, every device's rows are right. -/
theorem all_done : ∀ c e : Dev nD, e = prv^[16] c ∨ e = c ∨ ∃ j < 15, e = prv^[j + 1] c ∨ e = nxt^[j + 1] c := by decide +kernel

include hTf hTb in
theorem wp_hops (κ : GSem nD τ sig → ℕ) (c : Dev nD) (Kt : PUnit → sProp 𝕄) :
    iprop(invs X κ ∗ levAts L lv ∗ stage X Wt sc Tf Tb c 0
        ∗ ((ended c ∗ ins Wt Tf Tb c ∗ pt c cc0_stg7_0 (goal X Wt sc c)) -∗ Kt ⟨⟩))
      ⊢ wpC c (hops (nxt c, prv c, sc c)) Kt := by
  rw [hops_eq]
  unfold wpC
  iintro ⟨#HI, #HL, HS, Hk⟩
  have step : ∀ {h : ℕ} (hh : h < 15) (Q : PUnit → sProp 𝕄),
      iprop(invs X κ ∗ levAts L lv ∗ stage X Wt sc Tf Tb c h ∗ (stage X Wt sc Tf Tb c (h + 1) -∗ Q ⟨⟩))
        ⊢ wp frame (wpE (defs₀ (F := F)) 𝒱₀ (c : Thread nD τ) none) Set.univ (hop (nxt c) (prv c) (sc c) (sl h) hh) Q :=
    fun hh Q => wp_stage X Wt sc Tf Tb hTf hTb κ c hh Q
  rw [wp_bind]
  iapply (step (lt15 0 rfl)); isplitr; · iexact HI
  isplitr; · iexact HL
  isplitl [HS]; · iexact HS
  iintro HS
  rw [wp_bind]
  iapply (step (lt15 1 rfl)); isplitr; · iexact HI
  isplitr; · iexact HL
  isplitl [HS]; · iexact HS
  iintro HS
  rw [wp_bind]
  iapply (step (lt15 2 rfl)); isplitr; · iexact HI
  isplitr; · iexact HL
  isplitl [HS]; · iexact HS
  iintro HS
  rw [wp_bind]
  iapply (step (lt15 3 rfl)); isplitr; · iexact HI
  isplitr; · iexact HL
  isplitl [HS]; · iexact HS
  iintro HS
  rw [wp_bind]
  iapply (step (lt15 4 rfl)); isplitr; · iexact HI
  isplitr; · iexact HL
  isplitl [HS]; · iexact HS
  iintro HS
  rw [wp_bind]
  iapply (step (lt15 5 rfl)); isplitr; · iexact HI
  isplitr; · iexact HL
  isplitl [HS]; · iexact HS
  iintro HS
  rw [wp_bind]
  iapply (step (lt15 6 rfl)); isplitr; · iexact HI
  isplitr; · iexact HL
  isplitl [HS]; · iexact HS
  iintro HS
  rw [wp_bind]
  iapply (step (lt15 7 rfl)); isplitr; · iexact HI
  isplitr; · iexact HL
  isplitl [HS]; · iexact HS
  iintro HS
  rw [wp_bind]
  iapply (step (lt15 8 rfl)); isplitr; · iexact HI
  isplitr; · iexact HL
  isplitl [HS]; · iexact HS
  iintro HS
  rw [wp_bind]
  iapply (step (lt15 9 rfl)); isplitr; · iexact HI
  isplitr; · iexact HL
  isplitl [HS]; · iexact HS
  iintro HS
  rw [wp_bind]
  iapply (step (lt15 10 rfl)); isplitr; · iexact HI
  isplitr; · iexact HL
  isplitl [HS]; · iexact HS
  iintro HS
  rw [wp_bind]
  iapply (step (lt15 11 rfl)); isplitr; · iexact HI
  isplitr; · iexact HL
  isplitl [HS]; · iexact HS
  iintro HS
  rw [wp_bind]
  iapply (step (lt15 12 rfl)); isplitr; · iexact HI
  isplitr; · iexact HL
  isplitl [HS]; · iexact HS
  iintro HS
  rw [wp_bind]
  iapply (step (lt15 13 rfl)); isplitr; · iexact HI
  isplitr; · iexact HL
  isplitl [HS]; · iexact HS
  iintro HS
  rw [wp_bind]
  iapply (step (lt15 14 rfl)); isplitr; · iexact HI
  isplitr; · iexact HL
  isplitl [HS]; · iexact HS
  iintro HS
  iapply (wp_last X Wt sc Tf Tb hTf κ c Kt)
  isplitr; · iexact HI
  isplitr; · iexact HL
  isplitl [HS]; · iexact HS
  iintro ⟨He, Hi, Ho⟩
  iapply Hk
  isplitl [He]; · iexact He
  isplitl [Hi]; · iexact Hi
  ihave Ho := (Entails.of_eq (show oSt X Wt sc c (fun e => e = prv^[16] c ∨ done c 15 e)
    = iprop(∃ f : Buf (Elt F) ((c : Thread nD τ).loc cc0_stg7_0), ⌜∀ i : S4096x256.Idx, (rowDev i = prv^[16] c ∨ done c 15 (rowDev i)) → f i = goal X Wt sc c i⌝ ∗ pt c cc0_stg7_0 f) from rfl)) $$ Ho
  icases Ho with ⟨%f, %hf, Ho⟩
  have hfg : f = goal X Wt sc c := funext fun i => hf i (all_done c (rowDev i))
  subst hfg
  iexact Ho

end Run

end Cert.Hop
-- ==== Proof.BodyRun.lean ====
/-
The barrier and the own block, then the hops, then the cells closed: the body of the kernel at a symbolic device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.SL.BI.BigOpNat
public import Idealize.ShloMosaic.Lib.WritesUnit
public import proofs.«01_k».proof.Proof.Hops
public import proofs.«01_k».proof.Proof.Protocol
public import proofs.«01_k».proof.Proof.HopRun
public import proofs.«01_k».proof.Proof.HopsRun
public import proofs.«01_k».proof.Proof.Steps
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → S32x4096.Idx → Elt F .i32) (Wt : Dev nD → S4096x256.Idx → Elt F .fp8e5m2) (sc : Dev nD → F .f32)
  (Tf : Dev nD → S16.Idx → Elt F .i32) (Tb : Dev nD → S15.Idx → Elt F .i32)
  (sx sw : Dev nD → S1.Idx → Elt F .f32) (nb : Dev nD → S2.Idx → Elt F .i32)

/-! ## The neighbours by the table's words -/

theorem dev1_eq : ∀ d : Dev nD, k0_dev1 (BitVec.ofNat 32 d.val) = d.val := by decide +kernel
theorem dev2_eq : ∀ d : Dev nD, k0_dev2 (BitVec.ofNat 32 d.val) = d.val := by decide +kernel
theorem chk1_dev : ∀ d : Dev nD, k0_chk1 (BitVec.ofNat 32 d.val) := by decide +kernel
theorem chk2_dev : ∀ d : Dev nD, k0_chk2 (BitVec.ofNat 32 d.val) := by decide +kernel

/-! ## The eight scoped cells of a device -/

theorem bigSep_cells (Φ : Fin 4 × Fin 2 → sProp 𝕄) : bigSep Finset.univ Φ = iprop(Φ (0, 0) ∗ Φ (0, 1) ∗ Φ (1, 0) ∗ Φ (1, 1) ∗ Φ (2, 0) ∗ Φ (2, 1) ∗ Φ (3, 0) ∗ Φ (3, 1)) := by
  rw [bigSep_univ_eq_bigSepL [(0, 0), (0, 1), (1, 0), (1, 1), (2, 0), (2, 1), (3, 0), (3, 1)] (by decide) (by decide), bigSepL_cons_cons, bigSepL_cons_cons, bigSepL_cons_cons, bigSepL_cons_cons,
    bigSepL_cons_cons, bigSepL_cons_cons, bigSepL_cons_cons, bigSepL_singleton]
  rfl

/-- Just opened: each at round 0. -/
def opened8 (c : Dev nD) : sProp 𝕄 :=
  bigSep Finset.univ fun ks : Fin 4 × Fin 2 => iprop(atPos ER ((c : Thread nD τ), osem ks) 0 ∅ 0 ∗ reached ER ((c : Thread nD τ), osem ks) 0)
/-- Closed: each counter at zero. -/
def closed8 (c : Dev nD) : sProp 𝕄 := bigSep Finset.univ fun ks : Fin 4 × Fin 2 => semVal ((c : Thread nD τ), osem ks) 0

theorem opened8_pos (c : Dev nD) : opened8 (F := F) c ⊢ iprop(posF c 0 ∗ posB c 0) := by
  unfold opened8
  rw [bigSep_cells]
  iintro ⟨⟨A1, B1⟩, ⟨A2, B2⟩, ⟨A3, B3⟩, ⟨A4, B4⟩, ⟨A5, B5⟩, ⟨A6, B6⟩, ⟨A7, B7⟩, ⟨A8, B8⟩⟩
  unfold posF posB pos
  isplitl [A1 B1 A2 B2 A3 B3 A4 B4]
  · isplitl [A1 B1 A2 B2]
    · isplitl [A1]; · iexact A1
      isplitl [B1]; · iexact B1
      isplitl [A2]; · iexact A2
      iexact B2
    · isplitl [A4]; · iexact A4
      isplitl [B4]; · iexact B4
      isplitl [A3]; · iexact A3
      iexact B3
  · isplitl [A5 B5 A6 B6]
    · isplitl [A5]; · iexact A5
      isplitl [B5]; · iexact B5
      isplitl [A6]; · iexact A6
      iexact B6
    · isplitl [A8]; · iexact A8
      isplitl [B8]; · iexact B8
      isplitl [A7]; · iexact A7
      iexact B7

theorem hopOf_mono (ks : Fin 4 × Fin 2) {r r' : ℕ} (h : r ≤ r') : hopOf ks r ≤ hopOf ks r' := by
  obtain ⟨k, s⟩ := ks
  match k with
  | 0 => show 2 * r + s.val ≤ 2 * r' + s.val; omega
  | 1 => show 2 * r + (1 - s.val) ≤ 2 * r' + (1 - s.val); omega
  | 2 => show 2 * r + s.val ≤ 2 * r' + s.val; omega
  | 3 => show 2 * r + (1 - s.val) ≤ 2 * r' + (1 - s.val); omega

/-- A scoped cell past its last round gives its counter back at zero. -/
theorem close_sc (κ : GSem nD τ sig → ℕ) (c : Dev nD) (ks : Fin 4 × Fin 2) (R : ℕ) (h : nHops ks.1 ≤ hopOf ks R) :
    iprop(invs X κ ∗ atPos ER ((c : Thread nD τ), osem ks) R ∅ 0) ⊢ (|={Set.univ}=> semVal ((c : Thread nD τ), osem ks) 0 : sProp 𝕄) :=
  (sep_mono_left (inv_sc X κ ks c)).trans
    (Rounds.cell_close ER (Rd X) (Set.mem_univ _) (fun h => h) (R := R) fun r hr => duties_not X c ks r (Nat.not_lt.mpr (h.trans (hopOf_mono ks hr))))

theorem close_bar (κ : GSem nD τ sig → ℕ) (c : Dev nD) :
    iprop(invs X κ ∗ atPos ER (barC c) (0 + 1) ∅ 0) ⊢ (|={Set.univ}=> semVal (barC c) 0 : sProp 𝕄) :=
  (sep_mono_left (inv_bar X κ c)).trans
    (Rounds.cell_close ER (Rd X) (Set.mem_univ _) (fun h => h) (R := 0 + 1) fun r hr => duties_bar_later X c r hr)

theorem close8 (κ : GSem nD τ sig → ℕ) (c : Dev nD) :
    iprop(invs X κ ∗ posF c 16 ∗ posB c 15) ⊢ (|={Set.univ}=> closed8 c : sProp 𝕄) := by
  unfold closed8 posF posB pos
  rw [bigSep_cells]
  iintro ⟨#HI, ⟨⟨A1, -, A2, -⟩, ⟨A4, -, A3, -⟩⟩, ⟨⟨A6, -, A5, -⟩, ⟨A7, -, A8, -⟩⟩⟩
  imod (close_sc X κ c (0, 0) 8 (by decide)) $$ [A1] with A1
  · isplitr; · iexact HI
    iexact A1
  imod (close_sc X κ c (0, 1) 8 (by decide)) $$ [A2] with A2
  · isplitr; · iexact HI
    iexact A2
  imod (close_sc X κ c (1, 0) 8 (by decide)) $$ [A3] with A3
  · isplitr; · iexact HI
    iexact A3
  imod (close_sc X κ c (1, 1) 8 (by decide)) $$ [A4] with A4
  · isplitr; · iexact HI
    iexact A4
  imod (close_sc X κ c (2, 0) 8 (by decide)) $$ [A5] with A5
  · isplitr; · iexact HI
    iexact A5
  imod (close_sc X κ c (2, 1) 7 (by decide)) $$ [A6] with A6
  · isplitr; · iexact HI
    iexact A6
  imod (close_sc X κ c (3, 0) 7 (by decide)) $$ [A7] with A7
  · isplitr; · iexact HI
    iexact A7
  imod (close_sc X κ c (3, 1) 8 (by decide)) $$ [A8] with A8
  · isplitr; · iexact HI
    iexact A8
  imodintro
  isplitl [A1]; · iexact A1
  isplitl [A2]; · iexact A2
  isplitl [A3]; · iexact A3
  isplitl [A4]; · iexact A4
  isplitl [A5]; · iexact A5
  isplitl [A6]; · iexact A6
  isplitl [A7]; · iexact A7
  iexact A8

/-! ## The body -/

/-- What a device starts with. -/
def bodyPre (κ : GSem nD τ sig → ℕ) (c : Dev nD) (W : Waits sig ℕ) : sProp 𝕄 :=
  iprop(invs X κ ∗ levAts L lv ∗ barReached ∗ atPos ER (barC c) 0 ∅ 0 ∗ opened8 c
    ∗ dutyTok ER (barC (nxt c)) 0 true ∗ dutyTok ER (barC (prv c)) 0 false ∗ cred (tallyAt (barC c) 0 2)
    ∗ bigSep (Finset.Ico 0 16) (tF c) ∗ bigSep (Finset.Ico 0 15) (tB c) ∗ owes (c : Thread nD τ) (O₀ c) W
    ∗ (sAny comF c 0 ∗ sAny comF c 1) ∗ (sAny comB c 0 ∗ sAny comB c 1)
    ∗ pt c cc0_stg0_0 (X c) ∗ pt c cc0_stg2_0 (sx c) ∗ pt c cc0_stg3_0 (sw c) ∗ pt c cc0_stg4_0 (nb c) ∗ ins Wt Tf Tb c
    ∗ ∃ f, pt c cc0_stg7_0 f)

/-- What it ends with: every counter back at zero, every buffer back, the inputs kept, the result whole. -/
def bodyPost (c : Dev nD) : sProp 𝕄 :=
  iprop(semVal (barC c) 0 ∗ closed8 c ∗ (sAny comF c 0 ∗ sAny comF c 1) ∗ (sAny comB c 0 ∗ sAny comB c 1)
    ∗ pt c cc0_stg0_0 (X c) ∗ pt c cc0_stg2_0 (sx c) ∗ pt c cc0_stg3_0 (sw c) ∗ pt c cc0_stg4_0 (nb c) ∗ ins Wt Tf Tb c
    ∗ pt c cc0_stg7_0 (goal X Wt sc c) ∗ owing c 0)

theorem slot_access (M : Memref sig .tc .vmem S2x32x4096 .i32) (s : Fin 2) : (M.access (slotRect s)).setOn Finset.univ ⊆ (slotOf M s).view.set :=
  Eq.superset (Memref.set_view_squeeze _ _)

theorem read_slot (M : Memref sig .tc .vmem S2x32x4096 .i32) (c : Dev nD) (f : Buf (Elt F) ((slotOf M 0).view.loc (c : Thread nD τ))) (v : S32x4096.Idx → Elt F .i32) :
    (slotOf M 0).view.read (Elt F) ((M.access (slotRect 0)).write (Elt F) f (k0_pay3 v) Finset.univ) = v := by
  refine Eq.trans (b := shapeCast S32x4096 ((M.access (slotRect 0)).read (Elt F) ((M.access (slotRect 0)).write (Elt F) f (k0_pay3 v) Finset.univ)) shapeCasts_S1x32x4096_S32x4096) rfl ?_
  rw [View.read_write_univ]
  show shapeCast S32x4096 (shapeCast S1x32x4096 (shapeCast S32x4096 v _) _) _ = v
  rw [shapeCast_self, shapeCast_shapeCast]

theorem pay5_eq (x : S32x4096.Idx → Elt F .i32) : k0_pay5 x = rows x := by
  show bitcastToFloat .fp8e5m2 (bitcast S128x4096 8 (shapeCast S32x4096 x shapeCasts_S32x4096_S32x4096) _) = _
  rw [shapeCast_self]; rfl

/-- A load of one word continued. -/
theorem smem_bind {α β : Type} {s : Shape} {e : EltTy} {m : Memref sig .tc .smem s e} {r : Rect s} {h : (m.access r).Loads} {x : r.shape.Idx}
    {k : Elt F e → KProg F α} {K : α → KProg F β} : smemLoadElt (p := .tc) m r h x k >>= K = smemLoadElt (p := .tc) m r h x (fun w => k w >>= K) := rfl

/-- The barrier and the own block. -/
theorem wp_prologue (hsc : ∀ c i j, k0_pay2 (sx c i) (sw c j) = sc c)
    (hnb : ∀ c i, nb c i = if (i 0).val = 0 then BitVec.ofNat 32 (nxt c).val else BitVec.ofNat 32 (prv c).val)
    (κ : GSem nD τ sig → ℕ) (c : Dev nD) (W : Waits sig ℕ) (Kt : Dev nD × Dev nD × F .f32 → sProp 𝕄) :
    iprop(bodyPre X Wt Tf Tb sx sw nb κ c W
        ∗ ((stage X Wt sc Tf Tb c 0 ∗ atPos ER (barC c) (0 + 1) ∅ 0
            ∗ pt c cc0_stg0_0 (X c) ∗ pt c cc0_stg2_0 (sx c) ∗ pt c cc0_stg3_0 (sw c) ∗ pt c cc0_stg4_0 (nb c)) -∗ Kt (nxt c, prv c, sc c)))
      ⊢ wpC c prologue Kt := by
  have r0 : ∀ x, nb c ((Rect.unit (s := S2) ![0] S1.size inb_S2_S1_0).toLoadRect.idx x) = BitVec.ofNat 32 (nxt c).val := fun x => (hnb c _).trans (if_pos (by
    have : (x 0).val < 1 := (x 0).isLt
    show 0 + 1 * (x 0).val = 0; omega))
  have r1 : ∀ x, nb c ((Rect.unit (s := S2) ![1] S1.size inb_S2_S1_1).toLoadRect.idx x) = BitVec.ofNat 32 (prv c).val := fun x => (hnb c _).trans (if_neg (by
    show ¬ 1 + 1 * (x 0).val = 0; omega))
  unfold wpC prologue
  simp only [semSignalWord, semWaitWord, smemLoad, smem_bind, Prog.lift, Prog.bind_op, Prog.bind_ret, Prog.pure_eq_ret, Prog.bind_assoc, wp_deviceId]
  unfold bodyPre ins
  iintro ⟨⟨#HI, #HL, #HB, HatB, Ho8, HtN, HtP, HcB, HtF, HtB, HO, ⟨HF0, HF1⟩, ⟨HB0, HB1⟩, Hx, Hsx, Hsw, Hnb, ⟨Htf, Htb, Hw⟩, ⟨%fo, Ho⟩⟩, Hk⟩
  ihave Hp := (opened8_pos c) $$ Ho8
  icases Hp with ⟨HpF, HpB⟩
  ihave HpF := (Entails.of_eq (posF_eq c 0)) $$ HpF
  ihave HpB := (Entails.of_eq (posB_eq c 0)) $$ HpB
  icases HpF with ⟨HpF1, ⟨F1, #F2, F3, F4⟩⟩
  icases HpB with ⟨HpB1, ⟨G1, #G2, G3, G4⟩⟩
  iapply (wp_smemLoadElt 𝒱₀ (c : Thread nD τ) none Set.univ (m := stN) (r := Rect.unit (s := S2) ![0] S1.size inb_S2_S1_0) (hw := View.loads_smem_one rfl numel1_S1) (Finset.subset_univ _)) $$ Hnb; iintro Hnb
  rw [show (stN.access (Rect.unit (s := S2) ![0] S1.size inb_S2_S1_0)).read (Elt F) (nb c) (Shape.Idx.first (numel1_S1.symm ▸ Nat.one_pos)) = BitVec.ofNat 32 (nxt c).val from r0 _]
  iapply (wp_assume 𝒱₀ (c : Thread nD τ) none Set.univ (chk1_dev (nxt c)))
  iapply (wp_smemLoadElt 𝒱₀ (c : Thread nD τ) none Set.univ (m := stN) (r := Rect.unit (s := S2) ![1] S1.size inb_S2_S1_1) (hw := View.loads_smem_one rfl numel1_S1) (Finset.subset_univ _)) $$ Hnb; iintro Hnb
  rw [show (stN.access (Rect.unit (s := S2) ![1] S1.size inb_S2_S1_1)).read (Elt F) (nb c) (Shape.Idx.first (numel1_S1.symm ▸ Nat.one_pos)) = BitVec.ofNat 32 (prv c).val from r1 _]
  iapply (wp_assume 𝒱₀ (c : Thread nD τ) none Set.univ (chk2_dev (prv c)))
  simp only [dev1_eq, dev2_eq]
  -- the next device is handed the backward slot 1, the previous one the forward slot 1
  iapply (Rounds.wp_signal 𝒱₀ ER (Rd X) (c : Thread nD τ) none (dst := (nxt c : Thread nD τ)) (sem := barS) (r := 0) (d := true) (κ := κ (barC (nxt c)))
      (by rw [duties_bar]; exact Finset.mem_univ _) (amount_bar X (nxt c) 0 true) 0 (O₁ c) rfl) $$ [HO HtN HB1]
  · isplitr; · iapply (inv_bar X κ (nxt c)); iexact HI
    isplitl [HO]; · iexact HO
    isplitl [HtN]; · iexact HtN
    isplitl [HB1]
    · rw [payload_bar_true]; unfold freeB; rw [prv_nxt]
      isplitl [HB1]; · iexact HB1
      iexact G2
    · iapply (reached_bar (nxt c)); iexact HB
  iintro HO
  iapply (Rounds.wp_signal 𝒱₀ ER (Rd X) (c : Thread nD τ) none (dst := (prv c : Thread nD τ)) (sem := barS) (r := 0) (d := false) (κ := κ (barC (prv c)))
      (by rw [duties_bar]; exact Finset.mem_univ _) (amount_bar X (prv c) 0 false) 0 (O₂ c) rfl) $$ [HO HtP HF1]
  · isplitr; · iapply (inv_bar X κ (prv c)); iexact HI
    isplitl [HO]; · iexact HO
    isplitl [HtP]; · iexact HtP
    isplitl [HF1]
    · rw [payload_bar_false]; unfold freeF; rw [nxt_prv]
      isplitl [HF1]; · iexact HF1
      iexact F2
    · iapply (reached_bar (prv c)); iexact HB
  iintro HO
  iapply (Rounds.wp_wait_rest_token 𝒱₀ ER (Rd X) (c : Thread nD τ) none (κ := κ (barC c))
      (wpE_semWait_eq 𝒱₀ (c : Thread nD τ) none Set.univ) (Set.mem_univ _) 0 (O := O₂ c) (W := W) (R := 0) (m := 0) (T := ∅)
      (by rw [expect_bar]; decide)) $$ [HcB HO HatB]
  · isplitr; · iapply (inv_bar X κ c); iexact HI
    isplitl [HcB]; · iexact HcB
    isplitl [HO]; · iexact HO
    isplitr; · iapply (mayWait c (.reg barS) 0 0 0 1 (by decide) (le_of_eq (lv_bar c 0)) (by decide) (by decide)); iexact HL
    iexact HatB
  iintro ⟨HO, HatB, -, Hpay⟩
  ihave Hpay := (Entails.of_eq (rest_bar X c)) $$ Hpay
  icases Hpay with ⟨HfF, HfB⟩
  iapply (wp_smemLoadElt 𝒱₀ (c : Thread nD τ) none Set.univ (m := stSx) (r := Rect.unit (s := S1) ![0] S1.size inb_S1_S1_0) (hw := View.loads_smem_one rfl numel1_S1) (Finset.subset_univ _)) $$ Hsx; iintro Hsx
  iapply (wp_smemLoadElt 𝒱₀ (c : Thread nD τ) none Set.univ (m := stSw) (r := Rect.unit (s := S1) ![0] S1.size inb_S1_S1_0) (hw := View.loads_smem_one rfl numel1_S1) (Finset.subset_univ _)) $$ Hsw; iintro Hsw
  ihave HF0 := (Entails.of_eq (show sAny (F := F) comF c 0 = iprop(∃ f : Buf (Elt F) ((slotOf comF 0).view.loc (c : Thread nD τ)), (slotOf comF 0).view.loc (c : Thread nD τ) ↦[(slotOf comF 0).view.set]{fullShare} f) from rfl)) $$ HF0
  icases HF0 with ⟨%f0, HF0⟩
  ihave HB0 := (Entails.of_eq (show sAny (F := F) comB c 0 = iprop(∃ f : Buf (Elt F) ((slotOf comB 0).view.loc (c : Thread nD τ)), (slotOf comB 0).view.loc (c : Thread nD τ) ↦[(slotOf comB 0).view.set]{fullShare} f) from rfl)) $$ HB0
  icases HB0 with ⟨%b0, HB0⟩
  iapply (wp_load 𝒱₀ (c : Thread nD τ) none Set.univ (m := stX) (Finset.subset_univ _)) $$ Hx; iintro Hx
  rw [show stX.view.readAt (Elt F) xAll.toLoadRect (X c) = X c from Memref.readAt_unit_zero (Elt F) cc0_stg0_0 hz _ _]
  iapply (wp_load 𝒱₀ (c : Thread nD τ) none Set.univ (m := comF) (slot_setOn comF 0)) $$ HF0; iintro HF0
  iapply (wp_store 𝒱₀ (c : Thread nD τ) none Set.univ (m := comF) (r := slotRect 0) (Mk := Finset.univ) (slot_access comF 0)) $$ HF0; iintro HF0
  iapply (wp_load 𝒱₀ (c : Thread nD τ) none Set.univ (m := stX) (Finset.subset_univ _)) $$ Hx; iintro Hx
  rw [show stX.view.readAt (Elt F) xAll.toLoadRect (X c) = X c from Memref.readAt_unit_zero (Elt F) cc0_stg0_0 hz _ _]
  iapply (wp_load 𝒱₀ (c : Thread nD τ) none Set.univ (m := comB) (slot_setOn comB 0)) $$ HB0; iintro HB0
  iapply (wp_store 𝒱₀ (c : Thread nD τ) none Set.univ (m := comB) (r := slotRect 0) (Mk := Finset.univ) (slot_access comB 0)) $$ HB0; iintro HB0
  iapply (wp_load 𝒱₀ (c : Thread nD τ) none Set.univ (m := stX) (Finset.subset_univ _)) $$ Hx; iintro Hx
  rw [show stX.view.readAt (Elt F) xAll.toLoadRect (X c) = X c from Memref.readAt_unit_zero (Elt F) cc0_stg0_0 hz _ _]
  iapply (wp_load 𝒱₀ (c : Thread nD τ) none Set.univ (m := stW) (Finset.subset_univ _)) $$ Hw; iintro Hw
  rw [show stW.view.readAt (Elt F) wAll.toLoadRect (Wt c) = Wt c from Memref.readAt_unit_zero (Elt F) cc0_stg1_0 hz _ _]
  iapply (wp_load 𝒱₀ (c : Thread nD τ) none Set.univ (m := stO) (Finset.subset_univ _)) $$ Ho; iintro Ho
  iapply (wp_store 𝒱₀ (c : Thread nD τ) none Set.univ (m := stO) (r := Rect.unit (s := S4096x256) (k0_off1 c) S128x256.size (k0_off1_inb c)) (Mk := Finset.univ) (Finset.subset_univ _)) $$ Ho; iintro Ho
  have es : k0_pay2 ((stSx.access (Rect.unit (s := S1) ![0] S1.size inb_S1_S1_0)).read (Elt F) (sx c) (Shape.Idx.first (numel1_S1.symm ▸ Nat.one_pos)))
      ((stSw.access (Rect.unit (s := S1) ![0] S1.size inb_S1_S1_0)).read (Elt F) (sw c) (Shape.Idx.first (numel1_S1.symm ▸ Nat.one_pos))) = sc c := hsc c _ _
  rw [es, wp_ret]; imodintro
  iapply Hk
  isplitr [HatB Hx Hsx Hsw Hnb]
  · unfold stage St
    isplitr [Htf Htb Hw Ho]
    · isplitl [HF0]
      · unfold sPts; iexists _; isplitr; swap; · iexact HF0
        ipureintro; exact read_slot comF c f0 (X c)
      isplitl [HB0]
      · unfold sPts; iexists _; isplitr; swap; · iexact HB0
        ipureintro; exact read_slot comB c b0 (X c)
      isplitl [HfF]; · iexact HfF
      isplitl [HfB]; · iapply (Entails.of_eq (show freeB (F := F) c 1 0 = eB c 0 from (if_pos rfl).symm)); iexact HfB
      isplitl [HpF1 F1 F3 F4]
      · unfold posF pos
        isplitl [HpF1]; · iexact HpF1
        isplitl [F1]; · iexact F1
        isplitr; · iexact F2
        isplitl [F3]; · iexact F3
        iexact F4
      isplitl [HpB1 G1 G3 G4]
      · unfold posB pos
        isplitl [HpB1]; · iexact HpB1
        isplitl [G1]; · iexact G1
        isplitr; · iexact G2
        isplitl [G3]; · iexact G3
        iexact G4
      isplitl [HtF]; · iexact HtF
      isplitl [HtB]; · iexact HtB
      unfold owing; iexists _; iexact HO
    isplitl [Htf Htb Hw]
    · unfold ins
      isplitl [Htf]; · iexact Htf
      isplitl [Htb]; · iexact Htb
      iexact Hw
    unfold oSt
    iexists _
    isplitr; swap; · iexact Ho
    ipureintro
    intro i hi
    refine oSt_step X Wt sc c c (off1_dev c) _ (fun _ => False) fo (fun i h => h.elim) _ ?_ i (hi.imp id ?_)
    · rw [pay5_eq]; rfl
    · rintro ⟨j, hj, _⟩; omega
  isplitl [HatB]; · iexact HatB
  isplitl [Hx]; · iexact Hx
  isplitl [Hsx]; · iexact Hsx
  isplitl [Hsw]; · iexact Hsw
  iexact Hnb

/-- The whole body. -/
theorem wp_body (hTf : ∀ c i, Tf c i = BitVec.ofNat 32 (prv^[(i 0).val + 1] c).val) (hTb : ∀ c i, Tb c i = BitVec.ofNat 32 (nxt^[(i 0).val + 1] c).val)
    (hsc : ∀ c i j, k0_pay2 (sx c i) (sw c j) = sc c)
    (hnb : ∀ c i, nb c i = if (i 0).val = 0 then BitVec.ofNat 32 (nxt c).val else BitVec.ofNat 32 (prv c).val)
    (κ : GSem nD τ sig → ℕ) (c : Dev nD) (W : Waits sig ℕ) (Kt : PUnit → sProp 𝕄) :
    iprop(bodyPre X Wt Tf Tb sx sw nb κ c W ∗ (bodyPost X Wt sc Tf Tb sx sw nb c -∗ Kt ⟨⟩)) ⊢ wpC c (prologue >>= hops) Kt := by
  unfold wpC
  rw [wp_bind]
  iintro ⟨HP, Hk⟩
  ihave HH := (show bodyPre X Wt Tf Tb sx sw nb κ c W ⊢ iprop((invs X κ ∗ levAts L lv) ∗ bodyPre X Wt Tf Tb sx sw nb κ c W) from by
    unfold bodyPre
    iintro ⟨#HI, #HL, H⟩
    isplitr
    · isplitr; · iexact HI
      iexact HL
    isplitr; · iexact HI
    isplitr; · iexact HL
    iexact H) $$ HP
  icases HH with ⟨⟨#HI, #HL⟩, HP⟩
  iapply (wp_prologue X Wt sc Tf Tb sx sw nb hsc hnb κ c W)
  isplitl [HP]; · iexact HP
  iintro ⟨HS, HatB, Hx, Hsx, Hsw, Hnb⟩
  imod (close_bar X κ c) $$ [HatB] with Hbar
  · isplitr; · iexact HI
    iexact HatB
  iapply (wp_fupd _ _ _ _ _)
  iapply (wp_hops X Wt sc Tf Tb hTf hTb κ c)
  isplitr; · iexact HI
  isplitr; · iexact HL
  isplitl [HS]; · iexact HS
  iintro ⟨HE, Hi, Ho⟩
  ihave HE := (show ended (F := F) c ⊢ iprop((sAny comF c 1 ∗ sAny comF c 0) ∗ (sAny comB c 1 ∗ sAny comB c 0) ∗ posF c 16 ∗ posB c 15 ∗ owing c 0) from Entails.of_eq rfl) $$ HE
  icases HE with ⟨⟨HF1, HF0⟩, ⟨HB1, HB0⟩, HpF, HpB, HO⟩
  imod (close8 X κ c) $$ [HpF HpB] with H8
  · isplitr; · iexact HI
    isplitl [HpF]; · iexact HpF
    iexact HpB
  imodintro
  iapply Hk
  unfold bodyPost
  isplitl [Hbar]; · iexact Hbar
  isplitl [H8]; · iexact H8
  isplitl [HF0 HF1]; · isplitl [HF0] <;> iassumption
  isplitl [HB0 HB1]; · isplitl [HB0] <;> iassumption
  isplitl [Hx]; · iexact Hx
  isplitl [Hsx]; · iexact Hsx
  isplitl [Hsw]; · iexact Hsw
  isplitl [Hnb]; · iexact Hnb
  isplitl [Hi]; · iexact Hi
  isplitl [Ho]; · iexact Ho
  iexact HO

end Cert.Hop
-- ==== Proof.Deal.lean ====
/-
What the launch deals every device: its position at the barrier, the rights to open its other cells, the tokens of the duties it
pays, and the credit of what it waits for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.SL.BI.BigOpNat
public import Idealize.ShloMosaic.Lib.WritesUnit
public import proofs.«01_k».proof.Proof.Hops
public import proofs.«01_k».proof.Proof.Protocol
public import proofs.«01_k».proof.Proof.HopRun
public import proofs.«01_k».proof.Proof.HopsRun
public import proofs.«01_k».proof.Proof.BodyRun
public import proofs.«01_k».proof.Proof.Steps
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The tokens -/

/-- The duties at one device's cells: the two of its barrier, one per hop at each of the other four families. -/
abbrev TI : Type := Bool ⊕ (Fin 2 × Fin 16) ⊕ (Fin 2 × Fin 15)
/-- Each duty's semaphore, round and name. -/
def tokAt : TI → SemLoc sig × ℕ × Bool
  | .inl d => (.reg barS, 0, d)
  | .inr (.inl (k, h)) => if k = 0 then (.dma (fsS (sl h.val)), h.val / 2, false) else (.dma (frS (oth (sl h.val))), h.val / 2, false)
  | .inr (.inr (k, h)) => if k = 0 then (.dma (bsS (sl h.val)), h.val / 2, false) else (.dma (brS (oth (sl h.val))), h.val / 2, false)

theorem tokAt_inj : Function.Injective tokAt := by decide +kernel

/-- The duties of all devices' cells. -/
def ringToks : Finset (GSem nD τ sig × ℕ × Bool) :=
  Finset.univ.map ⟨fun ck : Dev nD × TI => (((ck.1 : Thread nD τ), (tokAt ck.2).1), (tokAt ck.2).2.1, (tokAt ck.2).2.2), fun _ _ h =>
    Prod.ext (congrArg (fun t : GSem nD τ sig × ℕ × Bool => t.1.1.1) h)
      (tokAt_inj (Prod.ext (congrArg (fun t : GSem nD τ sig × ℕ × Bool => t.1.2) h)
        (congrArg (fun t : GSem nD τ sig × ℕ × Bool => t.2) h)))⟩

/-- The tokens of one family of device `c`, hop by hop. -/
def kFS (c : Dev nD) : sProp 𝕄 := bigSep (Finset.Ico 0 16) fun h => dutyTok ER (fsC (sl h) c) (h / 2) false
def kFR (c : Dev nD) : sProp 𝕄 := bigSep (Finset.Ico 0 16) fun h => dutyTok ER (frC (oth (sl h)) c) (h / 2) false
def kBS (c : Dev nD) : sProp 𝕄 := bigSep (Finset.Ico 0 15) fun h => dutyTok ER (bsC (sl h) c) (h / 2) false
def kBR (c : Dev nD) : sProp 𝕄 := bigSep (Finset.Ico 0 15) fun h => dutyTok ER (brC (oth (sl h)) c) (h / 2) false

theorem bigSep_fin_Ico (n : ℕ) (Φ : ℕ → sProp 𝕄) : bigSep Finset.univ (fun h : Fin n => Φ h.val) = bigSep (Finset.Ico 0 n) Φ := by
  refine (bigSep_map (s := Finset.univ) (Fin.valEmbedding (n := n)) (Φ := Φ)).symm.trans (congrArg (fun s => bigSep s Φ) ?_)
  ext i
  simp only [Finset.mem_map, Finset.mem_univ, true_and, Fin.valEmbedding_apply, Finset.mem_Ico, Nat.zero_le]
  exact ⟨fun ⟨a, ha⟩ => ha ▸ a.isLt, fun h => ⟨⟨i, h⟩, rfl⟩⟩

theorem toks_eq : bigSep ringToks (fun x => (dutyTok ER x.1 x.2.1 x.2.2 : sProp 𝕄))
    = bigSep Finset.univ fun c : Dev nD => iprop((dutyTok ER (barC c) 0 false ∗ dutyTok ER (barC c) 0 true) ∗ (kFS c ∗ kFR c) ∗ (kBS c ∗ kBR c)) := by
  unfold ringToks; rw [bigSep_map, bigSep_univ_prod]
  refine bigSep_congr fun c _ => ?_
  rw [bigSep_univ_sum, bigSep_univ_sum, bigSep_univ_prod, bigSep_univ_prod,
    bigSep_univ_eq_bigSepL [false, true] (by decide) (by decide), bigSepL_cons_cons, bigSepL_singleton, BI.bigSep_fin_two, BI.bigSep_fin_two]
  unfold kFS kFR kBS kBR
  rw [← bigSep_fin_Ico, ← bigSep_fin_Ico, ← bigSep_fin_Ico, ← bigSep_fin_Ico]
  rfl

/-- The tokens of the duties device `c` pays: at its neighbours' barriers, at its own send cells, at its neighbours' receive cells. -/
def paysC (c : Dev nD) : sProp 𝕄 :=
  iprop((dutyTok ER (barC (prv c)) 0 false ∗ dutyTok ER (barC (nxt c)) 0 true) ∗ (kFS c ∗ kFR (nxt c)) ∗ (kBS c ∗ kBR (prv c)))

theorem toks_around :
    (bigSep Finset.univ fun c : Dev nD => iprop((dutyTok ER (barC c) 0 false ∗ dutyTok ER (barC c) 0 true) ∗ (kFS c ∗ kFR c) ∗ (kBS c ∗ kBR c)) : sProp 𝕄)
      ⊢ bigSep Finset.univ fun c : Dev nD => paysC c := by
  unfold paysC
  simp only [bigSep_sep']
  rw [bigSep_univ_equiv ring.symm (fun c : Dev nD => (dutyTok ER (barC c) 0 false : sProp 𝕄)),
    bigSep_univ_equiv ring (fun c : Dev nD => (dutyTok ER (barC c) 0 true : sProp 𝕄)),
    bigSep_univ_equiv ring (fun c : Dev nD => (kFR c : sProp 𝕄)),
    bigSep_univ_equiv ring.symm (fun c : Dev nD => (kBR c : sProp 𝕄))]
  exact BI.Entails.refl _

/-! ## The credit -/

def crF (c : Dev nD) : sProp 𝕄 := bigSep (Finset.Ico 0 16) fun h => cred (tallyAt (frC (oth (sl h)) c) h N)
def crB (c : Dev nD) : sProp 𝕄 := bigSep (Finset.Ico 0 15) fun h => cred (tallyAt (brC (oth (sl h)) c) h N)

theorem cred_two (c : Dev nD) : iprop(cred (tallyAt (barC c) 0 1) ∗ cred (tallyAt (barC c) 0 1)) ⊢ (cred (tallyAt (barC c) 0 2) : sProp 𝕄) := by
  rw [show (tallyAt (barC c) 0 2 : CellTallies nD τ sig ℕ) = tallyAt (barC c) 0 1 + tallyAt (barC c) 0 1 from (tallyAt_add _ _ 1 1).symm]
  exact (cred_add _ _).2

theorem creds (c : Dev nD) : (Pipeline.launchCred O₀ c : sProp 𝕄) ⊢ iprop(cred (tallyAt (barC c) 0 2) ∗ crF c ∗ crB c) := by
  rw [show (O₀ : Dev nD → CellTallies nD τ sig ℕ) = fun d => ((fun d => ((fun d => ((fun d => ∑ h ∈ Finset.Ico 0 16, tallyAt (frC (oth (sl h)) (nxt d)) h N) d
        + (fun d => ∑ h ∈ Finset.Ico 0 15, tallyAt (brC (oth (sl h)) (prv d)) h N) d)) d + (fun d => tallyAt (barC (prv d)) 0 1) d)) d
        + (fun d => tallyAt (barC (nxt d)) 0 1) d) from rfl,
    Pipeline.launchCred_add, Pipeline.launchCred_add, Pipeline.launchCred_add, Pipeline.launchCred_sum, Pipeline.launchCred_sum]
  have hF : (bigSep (Finset.Ico 0 16) fun h => Pipeline.launchCred (fun d => tallyAt (frC (oth (sl h)) (nxt d)) h N) c : sProp 𝕄) ⊢ crF c :=
    bigSep_mono fun h _ => Pipeline.launchCred_tallyAt (.dma (frS (oth (sl h)))) nxt prv nxt_prv prv_nxt h N c
  have hB : (bigSep (Finset.Ico 0 15) fun h => Pipeline.launchCred (fun d => tallyAt (brC (oth (sl h)) (prv d)) h N) c : sProp 𝕄) ⊢ crB c :=
    bigSep_mono fun h _ => Pipeline.launchCred_tallyAt (.dma (brS (oth (sl h)))) prv nxt prv_nxt nxt_prv h N c
  have h1 : (Pipeline.launchCred (fun d => tallyAt (barC (prv d)) 0 1) c : sProp 𝕄) ⊢ cred (tallyAt (barC c) 0 1) :=
    Pipeline.launchCred_tallyAt (.reg barS) prv nxt prv_nxt nxt_prv 0 1 c
  have h2 : (Pipeline.launchCred (fun d => tallyAt (barC (nxt d)) 0 1) c : sProp 𝕄) ⊢ cred (tallyAt (barC c) 0 1) :=
    Pipeline.launchCred_tallyAt (.reg barS) nxt prv nxt_prv prv_nxt 0 1 c
  iintro ⟨⟨⟨HF, HB⟩, H1⟩, H2⟩
  isplitl [H1 H2]
  · iapply (cred_two (F := F) c)
    isplitl [H1]
    · iapply h1; iexact H1
    · iapply h2; iexact H2
  isplitl [HF]
  · iapply hF; iexact HF
  · iapply hB; iexact HB

/-! ## A device's share -/

variable (X : Dev nD → S32x4096.Idx → Elt F .i32)

/-- What a device is dealt and keeps to the end of the region. -/
def dealt (c : Dev nD) : sProp 𝕄 :=
  iprop(dutyTok ER (barC (nxt c)) 0 true ∗ dutyTok ER (barC (prv c)) 0 false ∗ cred (tallyAt (barC c) 0 2)
    ∗ bigSep (Finset.Ico 0 16) (tF c) ∗ bigSep (Finset.Ico 0 15) (tB c))

theorem dealt_intro (c : Dev nD) : iprop(paysC c ∗ cred (tallyAt (barC c) 0 2) ∗ crF c ∗ crB c) ⊢ dealt (F := F) c := by
  unfold paysC dealt kFS kFR kBS kBR crF crB
  rw [show tF (F := F) c = fun h => iprop(dutyTok ER (fsC (sl h) c) (h / 2) false ∗ dutyTok ER (frC (oth (sl h)) (nxt c)) (h / 2) false ∗ cred (tallyAt (frC (oth (sl h)) c) h N)) from rfl,
    show tB (F := F) c = fun h => iprop(dutyTok ER (bsC (sl h) c) (h / 2) false ∗ dutyTok ER (brC (oth (sl h)) (prv c)) (h / 2) false ∗ cred (tallyAt (brC (oth (sl h)) c) h N)) from rfl]
  simp only [bigSep_sep']
  iintro ⟨⟨⟨H1, H2⟩, ⟨H3, H4⟩, ⟨H5, H6⟩⟩, Hc, HF, HB⟩
  isplitl [H2]; · iexact H2
  isplitl [H1]; · iexact H1
  isplitl [Hc]; · iexact Hc
  isplitl [H3 H4 HF]
  · isplitl [H3]; · iexact H3
    isplitl [H4]; · iexact H4
    iexact HF
  · isplitl [H5]; · iexact H5
    isplitl [H6]; · iexact H6
    iexact HB

/-- Before the region: the records, the barrier's position, the rights to open its eight cells, the share dealt. -/
def Tk (c : Dev nD) : sProp 𝕄 :=
  iprop((∃ κ, invs X κ) ∗ barReached ∗ atPos ER (barC c) 0 ∅ 0 ∗ (bigSep Finset.univ fun ks : Fin 4 × Fin 2 => openTok ER ((c : Thread nD τ), osem ks)) ∗ dealt c)
/-- As the body starts: the eight cells open. -/
def Xk (c : Dev nD) : sProp 𝕄 :=
  iprop((∃ κ, invs X κ) ∗ levAts L lv ∗ barReached ∗ atPos ER (barC c) 0 ∅ 0 ∗ opened8 c ∗ dealt c)

theorem open_sc (κ : GSem nD τ sig → ℕ) (c : Dev nD) (ks : Fin 4 × Fin 2) :
    iprop(invs X κ ∗ openTok ER ((c : Thread nD τ), osem ks) ∗ semVal ((c : Thread nD τ), osem ks) 0)
      ⊢ |={Set.univ}=> iprop(atPos ER ((c : Thread nD τ), osem ks) 0 ∅ 0 ∗ reached ER ((c : Thread nD τ), osem ks) 0) := by
  iintro ⟨#HI, Ho, Hv⟩
  iapply (cell_open ER (Rd X) (Set.mem_univ (κ ((c : Thread nD τ), osem ks))))
  isplitr; · iapply (inv_sc X κ ks c); iexact HI
  isplitl [Ho]; · iexact Ho
  iexact Hv

theorem open_all (κ : GSem nD τ sig → ℕ) (c : Dev nD) (l : List (Fin 4 × Fin 2)) : (l.Nodup) →
    iprop(invs X κ ∗ bigSep l.toFinset fun ks : Fin 4 × Fin 2 => iprop(openTok ER ((c : Thread nD τ), osem ks) ∗ semVal ((c : Thread nD τ), osem ks) 0))
      ⊢ |={Set.univ}=> bigSep l.toFinset fun ks : Fin 4 × Fin 2 => iprop(atPos ER ((c : Thread nD τ), osem ks) 0 ∅ 0 ∗ reached ER ((c : Thread nD τ), osem ks) 0) := by
  induction l with
  | nil =>
    intro _
    simp only [List.toFinset_nil, bigSep_empty]
    iintro ⟨-, H⟩; imodintro; iexact H
  | cons k l ih =>
    intro hd
    have hk : k ∉ l.toFinset := fun h => (List.nodup_cons.mp hd).1 (List.mem_toFinset.mp h)
    rw [List.toFinset_cons, bigSep_insert hk, bigSep_insert hk]
    show iprop(invs X κ ∗ (openTok ER ((c : Thread nD τ), osem k) ∗ semVal ((c : Thread nD τ), osem k) 0)
          ∗ bigSep l.toFinset fun ks : Fin 4 × Fin 2 => iprop(openTok ER ((c : Thread nD τ), osem ks) ∗ semVal ((c : Thread nD τ), osem ks) 0))
      ⊢ |={Set.univ}=> iprop((atPos ER ((c : Thread nD τ), osem k) 0 ∅ 0 ∗ reached ER ((c : Thread nD τ), osem k) 0)
          ∗ bigSep l.toFinset fun ks : Fin 4 × Fin 2 => iprop(atPos ER ((c : Thread nD τ), osem ks) 0 ∅ 0 ∗ reached ER ((c : Thread nD τ), osem ks) 0))
    iintro ⟨#HI, H1, H2⟩
    imod (open_sc X κ c k) $$ [H1] with H1
    · isplitr; · iexact HI
      iexact H1
    imod (ih (List.nodup_cons.mp hd).2) $$ [H2] with H2
    · isplitr; · iexact HI
      iexact H2
    imodintro
    isplitl [H1]; · iexact H1
    iexact H2

theorem open8 (κ : GSem nD τ sig → ℕ) (c : Dev nD) :
    iprop(invs X κ ∗ (bigSep Finset.univ fun ks : Fin 4 × Fin 2 => openTok ER ((c : Thread nD τ), osem ks)) ∗ closed8 c)
      ⊢ |={Set.univ}=> opened8 (F := F) c := by
  have h := open_all X κ c [(0, 0), (0, 1), (1, 0), (1, 1), (2, 0), (2, 1), (3, 0), (3, 1)] (by decide)
  rw [show ([(0, 0), (0, 1), (1, 0), (1, 1), (2, 0), (2, 1), (3, 0), (3, 1)] : List (Fin 4 × Fin 2)).toFinset = Finset.univ from by decide, bigSep_sep'] at h
  exact h

theorem hopen (c : Dev nD) : iprop(Tk X c ∗ Pipeline.ownSems0 osem c ∗ levAts L lv) ⊢ |={Set.univ}=> Xk X c := by
  rw [show (Pipeline.ownSems0 osem c : sProp 𝕄) = closed8 c from rfl]
  unfold Tk Xk
  iintro ⟨⟨⟨%κ, #HI⟩, HR, Ha, Ho, Hd⟩, Hs, HL⟩
  imod (open8 X κ c) $$ [Ho Hs] with H8
  · isplitr; · iexact HI
    isplitl [Ho]; · iexact Ho
    iexact Hs
  imodintro
  isplitr; · iexists κ; iexact HI
  isplitl [HL]; · iexact HL
  isplitl [HR]; · iexact HR
  isplitl [Ha]; · iexact Ha
  isplitl [H8]; · iexact H8
  iexact Hd

end Cert.Hop
-- ==== Proof.Entry.lean ====
/-
The region on a device: its communication buffers cut in slots and joined again, the proof data, and the body's obligation.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.SL.BI.BigOpNat
public import Idealize.ShloMosaic.Lib.WritesUnit
public import proofs.«01_k».proof.Proof.Hops
public import proofs.«01_k».proof.Proof.Protocol
public import proofs.«01_k».proof.Proof.HopRun
public import proofs.«01_k».proof.Proof.HopsRun
public import proofs.«01_k».proof.Proof.BodyRun
public import proofs.«01_k».proof.Proof.Deal
public import Idealize.ShloMosaic.Lib.Pipeline.ValueKit
public import Idealize.ShloMosaic.Lib.Pipeline.Regions
public import proofs.«01_k».proof.Proof.Steps
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A communication buffer and its two slots -/

theorem set_f (s : Fin 2) : (slotOf comF s).view.set = (slotRect s).set :=
  (Memref.set_view_squeeze _ _).trans (View.set_slice_whole cc0_scratch0 (slotRect s))
theorem set_b (s : Fin 2) : (slotOf comB s).view.set = (slotRect s).set :=
  (Memref.set_view_squeeze _ _).trans (View.set_slice_whole cc0_scratch1 (slotRect s))

theorem slots_disj (s s' : Fin 2) (h : s ≠ s') : Disjoint (slotRect s).set (slotRect s').set :=
  Ring.lead_disjoint (s := S2x32x4096) (0 : Fin 3) 1 (fun s : Fin 2 => (![s.val, 0, 0] : Fin 3 → ℕ)) S1x32x4096.size inb_slot (fun b => (Nat.one_mul _).symm) rfl s s' h

theorem slots_cover : Finset.univ.biUnion (fun s : Fin 2 => (slotRect s).set) = Finset.univ :=
  Ring.lead_cover (s := S2x32x4096) (0 : Fin 3) 1 (fun s : Fin 2 => (![s.val, 0, 0] : Fin 3 → ℕ)) S1x32x4096.size inb_slot (fun b => (Nat.one_mul _).symm)
    (by decide) rfl (by decide) rfl

/-- The forward buffer is its two slots; -/
theorem split_f (c : Dev nD) : iprop(∃ f : Buf (Elt F) ((c : Thread nD τ).loc cc0_scratch0), ((c : Thread nD τ).loc cc0_scratch0) ↦{fullShare} f)
    ⊢ (iprop(sAny comF c 0 ∗ sAny comF c 1) : sProp 𝕄) := by
  have h (f : Buf (Elt F) ((c : Thread nD τ).loc cc0_scratch0)) := Ring.pointsTo_blocks (Ix := ℕ) (Name := ℕ) (U := UU) (Lvl := ℕ) (ℓ := (c : Thread nD τ).loc cc0_scratch0)
    (fun s : Fin 2 => (slotRect s).set) slots_disj slots_cover (q := fullShare) f
  iintro ⟨%f, H⟩
  ihave H' := (show (((c : Thread nD τ).loc cc0_scratch0) ↦{fullShare} f : sProp 𝕄)
      ⊢ iprop((((c : Thread nD τ).loc cc0_scratch0) ↦[(slotRect 0).set]{fullShare} f) ∗ (((c : Thread nD τ).loc cc0_scratch0) ↦[(slotRect 1).set]{fullShare} f))
    from Entails.of_eq ((h f).trans (BI.bigSep_fin_two _))) $$ H
  icases H' with ⟨H0, H1⟩
  unfold sAny
  rw [set_f, set_f]
  isplitl [H0]
  · iexists f; iexact H0
  · iexists f; iexact H1

/-- and the two slots are the forward buffer. -/
theorem join_f (c : Dev nD) : iprop(sAny comF c 0 ∗ sAny comF c 1)
    ⊢ (iprop(∃ f : Buf (Elt F) ((c : Thread nD τ).loc cc0_scratch0), ((c : Thread nD τ).loc cc0_scratch0) ↦{fullShare} f) : sProp 𝕄) := by
  have h (f₀ : Buf (Elt F) ((c : Thread nD τ).loc cc0_scratch0)) :
      iprop((∃ f, ((c : Thread nD τ).loc cc0_scratch0) ↦[(slotRect 0).set]{fullShare} f) ∗ (∃ f, ((c : Thread nD τ).loc cc0_scratch0) ↦[(slotRect 1).set]{fullShare} f))
        ⊢ (iprop(∃ f : Buf (Elt F) ((c : Thread nD τ).loc cc0_scratch0), ((c : Thread nD τ).loc cc0_scratch0) ↦{fullShare} f) : sProp 𝕄) :=
    (Entails.of_eq (BI.bigSep_fin_two _).symm).trans (Ring.pointsTo_blocks_join_exists (Ix := ℕ) (Name := ℕ) (U := UU) (Lvl := ℕ) (ℓ := (c : Thread nD τ).loc cc0_scratch0)
      (fun s : Fin 2 => (slotRect s).set) slots_disj slots_cover (q := fullShare) f₀)
  unfold sAny
  rw [set_f, set_f]
  iintro ⟨⟨%f0, H0⟩, ⟨%f1, H1⟩⟩
  iapply (h f0)
  isplitl [H0]
  · iexists f0; iexact H0
  · iexists f1; iexact H1

/-- The same of the backward buffer. -/
theorem split_b (c : Dev nD) : iprop(∃ f : Buf (Elt F) ((c : Thread nD τ).loc cc0_scratch1), ((c : Thread nD τ).loc cc0_scratch1) ↦{fullShare} f)
    ⊢ (iprop(sAny comB c 0 ∗ sAny comB c 1) : sProp 𝕄) := by
  have h (f : Buf (Elt F) ((c : Thread nD τ).loc cc0_scratch1)) := Ring.pointsTo_blocks (Ix := ℕ) (Name := ℕ) (U := UU) (Lvl := ℕ) (ℓ := (c : Thread nD τ).loc cc0_scratch1)
    (fun s : Fin 2 => (slotRect s).set) slots_disj slots_cover (q := fullShare) f
  iintro ⟨%f, H⟩
  ihave H' := (show (((c : Thread nD τ).loc cc0_scratch1) ↦{fullShare} f : sProp 𝕄)
      ⊢ iprop((((c : Thread nD τ).loc cc0_scratch1) ↦[(slotRect 0).set]{fullShare} f) ∗ (((c : Thread nD τ).loc cc0_scratch1) ↦[(slotRect 1).set]{fullShare} f))
    from Entails.of_eq ((h f).trans (BI.bigSep_fin_two _))) $$ H
  icases H' with ⟨H0, H1⟩
  unfold sAny
  rw [set_b, set_b]
  isplitl [H0]
  · iexists f; iexact H0
  · iexists f; iexact H1

theorem join_b (c : Dev nD) : iprop(sAny comB c 0 ∗ sAny comB c 1)
    ⊢ (iprop(∃ f : Buf (Elt F) ((c : Thread nD τ).loc cc0_scratch1), ((c : Thread nD τ).loc cc0_scratch1) ↦{fullShare} f) : sProp 𝕄) := by
  have h (f₀ : Buf (Elt F) ((c : Thread nD τ).loc cc0_scratch1)) :
      iprop((∃ f, ((c : Thread nD τ).loc cc0_scratch1) ↦[(slotRect 0).set]{fullShare} f) ∗ (∃ f, ((c : Thread nD τ).loc cc0_scratch1) ↦[(slotRect 1).set]{fullShare} f))
        ⊢ (iprop(∃ f : Buf (Elt F) ((c : Thread nD τ).loc cc0_scratch1), ((c : Thread nD τ).loc cc0_scratch1) ↦{fullShare} f) : sProp 𝕄) :=
    (Entails.of_eq (BI.bigSep_fin_two _).symm).trans (Ring.pointsTo_blocks_join_exists (Ix := ℕ) (Name := ℕ) (U := UU) (Lvl := ℕ) (ℓ := (c : Thread nD τ).loc cc0_scratch1)
      (fun s : Fin 2 => (slotRect s).set) slots_disj slots_cover (q := fullShare) f₀)
  unfold sAny
  rw [set_b, set_b]
  iintro ⟨⟨%f0, H0⟩, ⟨%f1, H1⟩⟩
  iapply (h f0)
  isplitl [H0]
  · iexists f0; iexact H0
  · iexists f1; iexact H1

/-! ## The region's operands -/

variable (V : Dev nD → Valuation τ sig (Elt F))

abbrev kX (c : Dev nD) : S32x4096.Idx → Elt F .i32 := V c main_arg0
abbrev kW (c : Dev nD) : S4096x256.Idx → Elt F .fp8e5m2 := V c main_arg1
abbrev kSx (c : Dev nD) : S1.Idx → Elt F .f32 := V c main_arg2
abbrev kSw (c : Dev nD) : S1.Idx → Elt F .f32 := V c main_arg3
abbrev kNb (c : Dev nD) : S2.Idx → Elt F .i32 := V c main_v17
abbrev kTf (c : Dev nD) : S16.Idx → Elt F .i32 := V c main_v25
abbrev kTb (c : Dev nD) : S15.Idx → Elt F .i32 := V c main_v33

/-- The tables hold the devices of the ring. -/
structure Tabled : Prop where
  f : ∀ c i, kTf V c i = BitVec.ofNat 32 (prv^[(i 0).val + 1] c).val
  b : ∀ c i, kTb V c i = BitVec.ofNat 32 (nxt^[(i 0).val + 1] c).val
  n : ∀ c i, kNb V c i = if (i 0).val = 0 then BitVec.ofNat 32 (nxt c).val else BitVec.ofNat 32 (prv c).val

/-- The one index of a one-element array. -/
def i₁ : S1.Idx := fun a => ⟨0, by revert a; decide⟩
theorem S1_idx (i j : S1.Idx) : i = j := funext fun a => by
  obtain rfl : a = 0 := Subsingleton.elim _ _
  exact Subsingleton.elim (α := Fin 1) _ _

/-- The product of the two scales. -/
def kSc (c : Dev nD) : F .f32 := k0_pay2 (kSx V c i₁) (kSw V c i₁)
theorem kSc_eq (c : Dev nD) (i j : S1.Idx) : k0_pay2 (kSx V c i) (kSw V c j) = kSc V c := by
  rw [S1_idx i i₁, S1_idx j i₁]; rfl

/-- What a device's result ends as. -/
abbrev res (c : Dev nD) : S4096x256.Idx → Elt F .f32 := goal (kX V) (kW V) (kSc V) c

/-! ## The proof data -/

def slots (c : Dev nD) : sProp 𝕄 := iprop((sAny comF c 0 ∗ sAny comF c 1) ∗ (sAny comB c 0 ∗ sAny comB c 1))

/-- Before the body, and after it. -/
def Φ₀ (c : Dev nD) : sProp 𝕄 := iprop(Xk (kX V) c ∗ slots c ∗ ∃ r, prngReg c r)
def Φ₁ (c : Dev nD) : sProp 𝕄 := iprop((semVal (barC c) 0 ∗ closed8 c) ∗ slots c ∗ ∃ r, prngReg c r)

def dat0 (c : Dev nD) : Dat τ (Elt F) ℕ ℕ UU ℕ cfg0 c where
  A w := V c (Proc.devRef .tc (Pipeline.arrRef spec0 w))
  after w _ := match w with
    | ⟨0, _⟩ => kX V c
    | ⟨1, _⟩ => kW V c
    | ⟨2, _⟩ => kSx V c
    | ⟨3, _⟩ => kSw V c
    | ⟨4, _⟩ => kNb V c
    | ⟨5, _⟩ => kTf V c
    | ⟨6, _⟩ => kTb V c
    | ⟨7, _⟩ => res V c
  Φ t := match t with
    | ⟨0, _⟩ => Φ₀ V c
    | ⟨_ + 1, _⟩ => Φ₁ c
  q _ := fullShare
  owed t := match t with
    | ⟨0, _⟩ => O₀ c
    | ⟨_ + 1, _⟩ => 0

def pdats : (p : Fin 1) → (c : Dev nD) → Dat τ (Elt F) ℕ ℕ UU ℕ (cfgs p) c
  | 0 => dat0 V
  | ⟨_ + 1, h⟩ => absurd h (Nat.not_lt.2 (Nat.le_add_left _ _))

theorem share_eq (c : Dev nD) (w : Fin cfg0.W) : (dat0 V c).share w = fullShare := by unfold Dat.share; split <;> rfl

/-! ## What the staging buffers hold as the body starts -/

theorem read_0 (A : S32x4096.Idx → Elt F .i32) : ((cfg0.win (0 : Fin 8)).blk t0_0).view.read (Elt F) A = A := by
  funext i
  exact congrArg A (funext fun a => Fin.ext (Window.rect_emb_val_of_index_zero win0_0 t0_0 a rfl i))
theorem read_1 (A : S4096x256.Idx → Elt F .fp8e5m2) : ((cfg0.win (1 : Fin 8)).blk t0_0).view.read (Elt F) A = A := by
  funext i
  exact congrArg A (funext fun a => Fin.ext (Window.rect_emb_val_of_index_zero win0_1 t0_0 a rfl i))
theorem read_2 (A : S1.Idx → Elt F .f32) : ((cfg0.win (2 : Fin 8)).blk t0_0).view.read (Elt F) A = A := by
  funext i
  exact congrArg A (funext fun a => Fin.ext (Window.rect_emb_val_of_index_zero win0_2 t0_0 a rfl i))
theorem read_3 (A : S1.Idx → Elt F .f32) : ((cfg0.win (3 : Fin 8)).blk t0_0).view.read (Elt F) A = A := by
  funext i
  exact congrArg A (funext fun a => Fin.ext (Window.rect_emb_val_of_index_zero win0_3 t0_0 a rfl i))
theorem read_4 (A : S2.Idx → Elt F .i32) : ((cfg0.win (4 : Fin 8)).blk t0_0).view.read (Elt F) A = A := by
  funext i
  exact congrArg A (funext fun a => Fin.ext (Window.rect_emb_val_of_index_zero win0_4 t0_0 a rfl i))
theorem read_5 (A : S16.Idx → Elt F .i32) : ((cfg0.win (5 : Fin 8)).blk t0_0).view.read (Elt F) A = A := by
  funext i
  exact congrArg A (funext fun a => Fin.ext (Window.rect_emb_val_of_index_zero win0_5 t0_0 a rfl i))
theorem read_6 (A : S15.Idx → Elt F .i32) : ((cfg0.win (6 : Fin 8)).blk t0_0).view.read (Elt F) A = A := by
  funext i
  exact congrArg A (funext fun a => Fin.ext (Window.rect_emb_val_of_index_zero win0_6 t0_0 a rfl i))
theorem before_0 (c : Dev nD) (d) : (dat0 V c).before (0 : Fin 8) t0_0 d = kX V c := by
  unfold Dat.before; rw [if_pos (fetch0_0 t0_0)]; exact read_0 (kX V c)
theorem before_1 (c : Dev nD) (d) : (dat0 V c).before (1 : Fin 8) t0_0 d = kW V c := by
  unfold Dat.before; rw [if_pos (fetch0_1 t0_0)]; exact read_1 (kW V c)
theorem before_2 (c : Dev nD) (d) : (dat0 V c).before (2 : Fin 8) t0_0 d = kSx V c := by
  unfold Dat.before; rw [if_pos (fetch0_2 t0_0)]; exact read_2 (kSx V c)
theorem before_3 (c : Dev nD) (d) : (dat0 V c).before (3 : Fin 8) t0_0 d = kSw V c := by
  unfold Dat.before; rw [if_pos (fetch0_3 t0_0)]; exact read_3 (kSw V c)
theorem before_4 (c : Dev nD) (d) : (dat0 V c).before (4 : Fin 8) t0_0 d = kNb V c := by
  unfold Dat.before; rw [if_pos (fetch0_4 t0_0)]; exact read_4 (kNb V c)
theorem before_5 (c : Dev nD) (d) : (dat0 V c).before (5 : Fin 8) t0_0 d = kTf V c := by
  unfold Dat.before; rw [if_pos (fetch0_5 t0_0)]; exact read_5 (kTf V c)
theorem before_6 (c : Dev nD) (d) : (dat0 V c).before (6 : Fin 8) t0_0 d = kTb V c := by
  unfold Dat.before; rw [if_pos (fetch0_6 t0_0)]; exact read_6 (kTb V c)

/-! ## The body's obligation -/

abbrev stg (c : Dev nD) (b : Ref sig .tc) (X : b.ty.Contents (Elt F)) : sProp 𝕄 :=
  iprop(∃ f : Buf (Elt F) ((c : Thread nD τ).loc b), ⌜f = X⌝ ∗ pt c b f)

def oblPre (c : Dev nD) : sProp 𝕄 :=
  iprop(Φ₀ V c ∗ (dat0 V c).owesAt 0 (Fin.castSucc t0_0)
    ∗ (∃ d, stg c cc0_stg0_0 ((dat0 V c).before (0 : Fin 8) t0_0 d)) ∗ (∃ d, stg c cc0_stg1_0 ((dat0 V c).before (1 : Fin 8) t0_0 d))
    ∗ (∃ d, stg c cc0_stg2_0 ((dat0 V c).before (2 : Fin 8) t0_0 d)) ∗ (∃ d, stg c cc0_stg3_0 ((dat0 V c).before (3 : Fin 8) t0_0 d))
    ∗ (∃ d, stg c cc0_stg4_0 ((dat0 V c).before (4 : Fin 8) t0_0 d)) ∗ (∃ d, stg c cc0_stg5_0 ((dat0 V c).before (5 : Fin 8) t0_0 d))
    ∗ (∃ d, stg c cc0_stg6_0 ((dat0 V c).before (6 : Fin 8) t0_0 d)) ∗ (∃ d, stg c cc0_stg7_0 ((dat0 V c).before (7 : Fin 8) t0_0 d)))
def oblPost (c : Dev nD) : sProp 𝕄 :=
  iprop(Φ₁ c ∗ (dat0 V c).owesAt 0 (Fin.succ t0_0)
    ∗ stg c cc0_stg0_0 (kX V c) ∗ stg c cc0_stg1_0 (kW V c) ∗ stg c cc0_stg2_0 (kSx V c) ∗ stg c cc0_stg3_0 (kSw V c)
    ∗ stg c cc0_stg4_0 (kNb V c) ∗ stg c cc0_stg5_0 (kTf V c) ∗ stg c cc0_stg6_0 (kTb V c) ∗ stg c cc0_stg7_0 (res V c))

/-- The body of a device, from what the region holds to what it leaves. -/
theorem wp_obl (hV : Tabled V) (c : Dev nD) : oblPre V c ⊢ wpC c (prologue >>= hops) (fun _ => oblPost V c) := by
  unfold oblPre Φ₀ Xk dealt slots Dat.owesAt Pipeline.owesWithin
  simp only [before_0, before_1, before_2, before_3, before_4, before_5, before_6]
  rw [show (dat0 V c).owed (Fin.castSucc t0_0) = O₀ c from rfl]
  iintro ⟨⟨⟨⟨%κ, HI⟩, HL, HR, Ha, H8, Hd1, Hd2, Hc, HtF, HtB⟩, ⟨HsF, HsB⟩, Hp⟩, ⟨%W, -, HO⟩, ⟨%_, %g0, %e0, H0⟩, ⟨%_, %g1, %e1, H1⟩, ⟨%_, %g2, %e2, H2⟩, ⟨%_, %g3, %e3, H3⟩,
    ⟨%_, %g4, %e4, H4⟩, ⟨%_, %g5, %e5, H5⟩, ⟨%_, %g6, %e6, H6⟩, ⟨%_, %g7, -, H7⟩⟩
  subst e0 e1 e2 e3 e4 e5 e6
  iapply (wp_body (kX V) (kW V) (kSc V) (kTf V) (kTb V) (kSx V) (kSw V) (kNb V) hV.f hV.b (kSc_eq V) hV.n κ c W)
  isplitr [Hp]
  · unfold bodyPre ins
    isplitl [HI]; · iexact HI
    isplitl [HL]; · iexact HL
    isplitl [HR]; · iexact HR
    isplitl [Ha]; · iexact Ha
    isplitl [H8]; · iexact H8
    isplitl [Hd1]; · iexact Hd1
    isplitl [Hd2]; · iexact Hd2
    isplitl [Hc]; · iexact Hc
    isplitl [HtF]; · iexact HtF
    isplitl [HtB]; · iexact HtB
    isplitl [HO]; · iexact HO
    isplitl [HsF]; · iexact HsF
    isplitl [HsB]; · iexact HsB
    isplitl [H0]; · iexact H0
    isplitl [H2]; · iexact H2
    isplitl [H3]; · iexact H3
    isplitl [H4]; · iexact H4
    isplitl [H5 H6 H1]
    · isplitl [H5]; · iexact H5
      isplitl [H6]; · iexact H6
      iexact H1
    iexists g7; iexact H7
  unfold bodyPost ins owing
  iintro ⟨Hb, H8, HsF, HsB, H0, H2, H3, H4, ⟨H5, H6, H1⟩, H7, ⟨%W', HO⟩⟩
  unfold oblPost Φ₁ slots Dat.owesAt Pipeline.owesWithin
  rw [show (dat0 V c).owed (Fin.succ t0_0) = 0 from rfl]
  isplitl [Hb H8 HsF HsB Hp]
  · isplitl [Hb H8]; · isplitl [Hb] <;> iassumption
    isplitl [HsF HsB]; · isplitl [HsF] <;> iassumption
    iexact Hp
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; rfl)
  iexact H7

set_option maxRecDepth 100000 in
theorem body_obligation (hV : Tabled V) (c : Dev nD) : BodyObligation (dat0 V c) (defs₀ (F := F)) 𝒱₀ 0 Set.univ := fun t => by
  obtain rfl := fin_N0 t
  rw [bigSep_W0, bigSep_W0]
  simp only [owns_whole_eq]
  show oblPre V c ⊢ wpC c (cc0_body (F := F) stX (Memref.isWhole_whole _) stW (Memref.isWhole_whole _) stSx (Memref.isWhole_whole _) stSw (Memref.isWhole_whole _)
      stN (Memref.isWhole_whole _) stF (Memref.isWhole_whole _) stB (Memref.isWhole_whole _) stO (Memref.isWhole_whole _)
      comF (Memref.isWhole_whole _) comB (Memref.isWhole_whole _) cc0_scratch2 cc0_scratch3 cc0_scratch4 cc0_scratch5) (fun _ => oblPost V c)
  rw [cc0_body_hops]
  exact wp_obl V hV c

end Cert.Hop
-- ==== Proof.Run.lean ====
/-
The region of every device as one record, the launch that deals the protocol out, and the run of the whole program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Lib.Claim
public import Idealize.ShloMosaic.Lib.StableHlo.RunClose
public import Idealize.ShloMosaic.Lib.Pipeline.Value
public import Idealize.ShloMosaic.Lib.Ring
public import Idealize.SL.BI.BigOpNat
public import Idealize.ShloMosaic.Lib.WritesUnit
public import proofs.«01_k».proof.Proof.Hops
public import proofs.«01_k».proof.Proof.Protocol
public import proofs.«01_k».proof.Proof.HopRun
public import proofs.«01_k».proof.Proof.HopsRun
public import proofs.«01_k».proof.Proof.BodyRun
public import proofs.«01_k».proof.Proof.Deal
public import proofs.«01_k».proof.Proof.Entry
public import Idealize.ShloMosaic.Lib.Pipeline.ValueKit
public import Idealize.ShloMosaic.Lib.Pipeline.Regions
public import Idealize.ShloMosaic.Lib.Quiescent
public import proofs.«01_k».proof.Proof.Steps
public import proofs.«01_k».proof.Proof.Tables

@[expose] public section

noncomputable section

namespace Cert.Hop

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Region

variable (V : Dev nD → Valuation τ sig (Elt F))

/-- The devices' buffers as the region ends: the result written. -/
def Vend (c : Dev nD) : Valuation τ sig (Elt F) := Function.update (V c) (Proc.devRef .tc main_v34) (res V c)

theorem Vend_res (c : Dev nD) : Vend V c (Proc.devRef .tc main_v34) = res V c := Function.update_self _ _ _
theorem Vend_ne (c : Dev nD) (r : DevRef τ sig) (h : r ≠ Proc.devRef .tc main_v34) : Vend V c r = V c r := Function.update_of_ne h _ _

/-! ## The arrays at the region's two ends -/

theorem arr_start (c : Dev nD) (w : Fin 8) : (dat0 V c).arrAt w 0 = V c (Proc.devRef .tc (Pipeline.arrRef spec0 w)) := rfl

theorem arr_ne : ∀ w : Fin 8, w ≠ 7 → (Proc.devRef .tc (Pipeline.arrRef spec0 w) : DevRef τ sig) ≠ Proc.devRef .tc main_v34 := by decide
theorem isIn : ∀ w : Fin 8, w ≠ 7 → (cfg0.win w).isOut = false := by decide

theorem arr_res (c : Dev nD) : (dat0 V c).arrAt (7 : Fin 8) cfg0.N = res V c :=
  Dat.arrAt_eq_of_after_last (dat0 V c) (7 : Fin 8) t0_0 (by decide +kernel) (res V c) (fun j => rfl)

theorem arr_end (c : Dev nD) (w : Fin 8) : (dat0 V c).arrAt w cfg0.N = Vend V c (Proc.devRef .tc (Pipeline.arrRef spec0 w)) := by
  by_cases h : w = 7
  · subst h; exact (arr_res V c).trans (Vend_res V c).symm
  · exact ((dat0 V c).arrAt_in w (isIn w h) _).trans (Vend_ne V c _ (arr_ne w h)).symm

/-! ## Entering and leaving -/

theorem enter (c : Dev nD) : iprop(Pipeline.scopedRest spec0 c ∗ (∃ r, prngReg c r) ∗ StableHlo.held (c.tc : Thread nD τ) ∅ (V c) ∗ Xk (kX V) c) ⊢ (Φ₀ V c : sProp 𝕄) := by
  rw [scopedRest0_eq c]
  unfold Φ₀ slots
  iintro ⟨⟨Hf, Hb⟩, Hp, -, HX⟩
  isplitl [HX]; · iexact HX
  isplitl [Hf Hb]
  · isplitl [Hf]
    · iapply (split_f c); iexact Hf
    · iapply (split_b c); iexact Hb
  iexact Hp

theorem held_none (c : Dev nD) (W : Valuation τ sig (Elt F)) : (StableHlo.held (c.tc : Thread nD τ) ∅ W : sProp 𝕄) = iprop(emp) := by
  unfold StableHlo.held
  exact BI.bigSep_empty

theorem leave (c : Dev nD) : (Φ₁ c : sProp 𝕄)
    ⊢ iprop(Pipeline.scopedRest spec0 c ∗ (∃ r, prngReg c r) ∗ StableHlo.held (c.tc : Thread nD τ) ∅ (Vend V c) ∗ Pipeline.ownSems0 osem c ∗ semVal (barC c) 0) := by
  rw [scopedRest0_eq c, held_none, show (Pipeline.ownSems0 osem c : sProp 𝕄) = closed8 c from rfl]
  unfold Φ₁ slots
  iintro ⟨⟨Hbar, H8⟩, ⟨Hf, Hb⟩, Hp⟩
  isplitl [Hf Hb]
  · isplitl [Hf]
    · iapply (join_f c); iexact Hf
    · iapply (join_b c); iexact Hb
  isplitl [Hp]; · iexact Hp
  isplitr; · iempintro
  isplitl [H8]; · iexact H8
  iexact Hbar

/-! ## The levels -/

theorem O₀_pos {c : Dev nD} {g : GSem nD τ sig} {i : ℕ} (h : 0 < O₀ c g i) : i ∈ L g ∧ 0 < lv g i := by
  unfold O₀ O₁ O₂ at h
  rcases Pipeline.add_pos_cases h with h | h
  · rcases Pipeline.add_pos_cases h with h | h
    · rcases Pipeline.add_pos_cases h with h | h
      · obtain ⟨h1, h2, rfl⟩ := OF_pos h
        rw [L_tc, lv_fr]; exact ⟨Finset.mem_range.mpr h2, by omega⟩
      · obtain ⟨h1, h2, rfl⟩ := OB_pos h
        rw [L_tc, lv_br]; exact ⟨Finset.mem_range.mpr (by omega), by omega⟩
    · obtain ⟨rfl, rfl⟩ := Pipeline.tallyAt_pos h
      rw [L_tc, lv_bar]; exact ⟨Finset.mem_range.mpr (by decide), by decide⟩
  · obtain ⟨rfl, rfl⟩ := Pipeline.tallyAt_pos h
    rw [L_tc, lv_bar]; exact ⟨Finset.mem_range.mpr (by decide), by decide⟩

theorem stage_kind : ∀ (w : Fin 8) (s : Fin (cfg0.win w).nbuf), kindOf (.dma ((cfg0.win w).sem s)) = none := by decide

theorem lv_stage (c : Dev nD) (w : Fin 8) (s : Fin (cfg0.win w).nbuf) : lv ((c : Thread nD τ), .dma ((cfg0.win w).sem s)) 0 ≤ 0 := by
  dsimp only [lv]
  rw [stage_kind w s]
  exact le_of_eq (if_neg fun h => by cases h)

theorem cut_owed (c : Dev nD) (t : Fin (cfg0.N + 1)) (g : GSem nD τ sig) (i : ℕ) (h : 0 < (dat0 V c).owed t g i) : i ∈ L g ∧ 0 < lv g i := by
  rw [show (dat0 V c).owed t = if t.val = 0 then O₀ c else 0 from by
    obtain ⟨t, ht⟩ := t
    match t with
    | 0 => rfl
    | _ + 1 => rfl] at h
  split at h
  · exact O₀_pos h
  · exact absurd h (Nat.lt_irrefl 0)

/-! ## The record -/

/-- The buffers no window of the region stages. -/
def others : Finset (DevRef τ sig) := Pipeline.ucRefs τ sig \ Pipeline.arrRefs spec0

theorem others_ne (b : DevRef τ sig) (h : b ∈ others) : b ≠ Proc.devRef .tc main_v34 := fun e => by
  subst e
  exact (Finset.mem_sdiff.mp h).2 (Finset.mem_map.mpr ⟨main_v34, Finset.mem_image.mpr ⟨7, Finset.mem_univ _, rfl⟩, rfl⟩)

theorem osem_facts : Pipeline.OwnSemFacts spec0 osem := by decide

set_option backward.isDefEq.respectTransparency.types false in
def reg0 (hV : Tabled V) : Pipeline.RegionSeg (pcfgs (F := F)) adm (pdats V) 0 defs₀ 𝒱₀ L lv 0 :=
  Pipeline.RegionSeg.ofTalk (pcfgs (F := F)) adm (pdats V) 0 defs₀ 𝒱₀ L lv 0 osem osem_facts
    ∅ others (Finset.empty_subset _) launch0.toP rfl (fun c => (body_obligation V hV c).loose)
    (fun _ => 0) O₀ (fun c => (zero_add _).symm) (fun c => rfl) (fun _ => rfl) (share_eq V)
    V (Vend V) (fun c b hb => Vend_ne V c b (others_ne b (Finset.mem_sdiff.mp hb).1))
    (Tk (kX V)) (fun c => semVal (barC c) 0) (Xk (kX V)) (fun c => semVal (barC c) 0) (hopen (kX V)) (enter V) (leave V)
    (fun c => by iintro H; imodintro; iexact H)
    (fun _ => 0)
    ⟨fun c w s => by rw [L_tc]; exact Finset.mem_range.mpr (by decide), fun c w s => lv_stage c w s, fun c t g i h => cut_owed V c t g i h⟩
    (fun _ => iprop(emp))
    (arr_start V) (arr_end V)

/-- What rides beside the buffers up to the region. -/
def ride (c : Dev nD) : sProp 𝕄 := iprop(Tk (kX V) c ∗ (∃ r, prngReg c r) ∗ ∃ W, owes (c : Thread nD τ) (O₀ c) W)

theorem arrs_sub : Pipeline.arrRefs (τ := τ) spec0 ⊆ Pipeline.ucRefs τ sig := Pipeline.arrRefs_sub_ucRefs spec0 (by decide)

theorem reg0_pre (hV : Tabled V) (c : Dev nD) :
    iprop(StableHlo.held (c : Thread nD τ) (Pipeline.ucRefs τ sig) (V c) ∗ ride V c) ⊢ (reg0 V hV).pre c := by
  show _ ⊢ iprop(StableHlo.held (c.tc : Thread nD τ) (Pipeline.arrRefs (τ := τ) spec0) (V c) ∗ (∃ r, prngReg c r)
    ∗ (StableHlo.held (c.tc : Thread nD τ) others (V c) ∗ emp) ∗ Tk (kX V) c ∗ ∃ Wd, owes (c : Thread nD τ) (0 + O₀ c) Wd)
  rw [StableHlo.held_sub_split (c.tc : Thread nD τ) arrs_sub (V c), zero_add]
  unfold ride others
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg0_post (hV : Tabled V) (c : Dev nD) : (reg0 V hV).post c
    ⊢ iprop((StableHlo.held (c : Thread nD τ) (Pipeline.ucRefs τ sig) (Vend V c) ∗ semVal (barC c) 0) ∗ ∃ W, owes (c : Thread nD τ) (0 : CellTallies nD τ sig ℕ) W) := by
  show iprop(StableHlo.held (c.tc : Thread nD τ) (Pipeline.arrRefs (τ := τ) spec0) (Vend V c) ∗ (∃ r, prngReg c r)
    ∗ (StableHlo.held (c.tc : Thread nD τ) others (Vend V c) ∗ emp) ∗ semVal (barC c) 0 ∗ ∃ Wd, owes (c : Thread nD τ) (0 : CellTallies nD τ sig ℕ) Wd) ⊢ _
  rw [StableHlo.held_sub_split (c.tc : Thread nD τ) arrs_sub (Vend V c)]
  unfold others
  iintro ⟨Ha, -, ⟨Ho, -⟩, Hb, HO⟩
  isplitr [HO]
  · isplitl [Ha Ho]
    · isplitl [Ha] <;> iassumption
    iexact Hb
  iexact HO

end Region

/-! ## The launch -/

variable (m : (ℓ : Loc nD τ sig) → Buf (Elt F) ℓ) (ρ : Dev nD → PrngReg)

theorem tabled : Tabled (V1 m) := ⟨of_eq m, ob_eq m, nbrs_eq m⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The pipeline's launch element, and the protocol's. -/
def u₀ : UU := (initOf (Pipeline.cells cfgs cellOf_inj) (Pipeline.launchToks cfgs cellOf_inj), launchOf barCells scCells ringToks)

/-- The protocol's launch element, kept by device 0 until it is dealt. -/
def G (c : Dev nD) : sProp 𝕄 := if c = 0 then BI.own (ER (launchOf barCells scCells ringToks)) else iprop(emp)
theorem G_all : bigSep Finset.univ (G (F := F)) = BI.own (ER (launchOf barCells scCells ringToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (X : Dev nD → S32x4096.Idx → Elt F .i32) (κ : GSem nD τ sig → ℕ) : sProp 𝕄 := iprop(invs X κ ∗ barReached)
instance records_persistent (X : Dev nD → S32x4096.Idx → Elt F .i32) (κ : GSem nD τ sig → ℕ) : BI.Persistent (records X κ) := by unfold records; infer_instance

/-- A device's share of the protocol; and what else it is launched with. -/
def share (c : Dev nD) : sProp 𝕄 :=
  iprop(atPos ER (barC c) 0 ∅ 0 ∗ (bigSep Finset.univ fun ks : Fin 4 × Fin 2 => openTok ER ((c : Thread nD τ), osem ks)) ∗ paysC c)
def bundle (c : Dev nD) : sProp 𝕄 :=
  iprop(StableHlo.held (c : Thread nD τ) (Pipeline.ucRefs τ sig) (V0 m c) ∗ (cred (tallyAt (barC c) 0 2) ∗ crF c ∗ crB c)
    ∗ owes (c : Thread nD τ) (O₀ c) ∅ ∗ ∃ r, prngReg c r)

abbrev Tfirst (c : Dev nD) : sProp 𝕄 := iprop(StableHlo.held (c : Thread nD τ) (Pipeline.ucRefs τ sig) (V0 m c) ∗ ride (V1 m) c)
abbrev Tlast (c : Dev nD) : sProp 𝕄 := iprop(StableHlo.held (c : Thread nD τ) (Pipeline.ucRefs τ sig) (Vend (V1 m) c) ∗ semVal (barC c) 0)

theorem first_intro (κ : GSem nD τ sig → ℕ) (c : Dev nD) : iprop(records (kX (V1 m)) κ ∗ (share c ∗ bundle m c)) ⊢ Tfirst m c := by
  unfold records share bundle Tfirst ride Tk
  iintro ⟨⟨HI, HR⟩, ⟨Ha, Ho, Ht⟩, Hh, Hc, HO, Hp⟩
  isplitl [Hh]; · iexact Hh
  isplitl [HI HR Ha Ho Ht Hc]
  · isplitl [HI]; · iexists κ; iexact HI
    isplitl [HR]; · iexact HR
    isplitl [Ha]; · iexact Ha
    isplitl [Ho]; · iexact Ho
    iapply (dealt_intro c)
    isplitl [Ht] <;> iassumption
  isplitl [Hp]; · iexact Hp
  iexists ∅; iexact HO

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- The launch: the invariants made, and everything dealt. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (Tfirst m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barC c) 0 ∗ G c)) : sProp 𝕄) := by
    rw [show (unscopedBufs c (fun b => m ((c.tc : Thread nD τ).loc b)) : sProp 𝕄) = StableHlo.held (c : Thread nD τ) (Pipeline.ucRefs τ sig) (V0 m c) from
        Pipeline.unscopedBufs_held (Ix := ℕ) (Name := ℕ) (U := UU) (Lvl := ℕ) c (V0 m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun ks : Fin 4 × Fin 2 => (openTok ER ((c : Thread nD τ), osem ks) : sProp 𝕄)) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (Entails.of_eq (bigSep_sep' Finset.univ (bundle m) (fun c : Dev nD => iprop(semVal (barC c) 0 ∗ G c)))) $$ H'
  icases H2 with ⟨HB, H3⟩
  ihave H4 := (Entails.of_eq (bigSep_sep' Finset.univ (fun c : Dev nD => (semVal (barC c) 0 : sProp 𝕄)) (G (F := F)))) $$ H3
  icases H4 with ⟨Hv, HG⟩
  ihave Hu := (Entails.of_eq (G_all (F := F))) $$ HG
  imod (Rounds.fund_launch ER (Rd (kX (V1 m))) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records (kX (V1 m)) κ) (Φ := fun c => iprop(share c ∗ bundle m c)) fun c _ => first_intro m κ c)
  isplitr
  · unfold records invs barReached
    isplitr; · iexact Hinv
    iexact Hr
  iapply (Entails.of_eq (bigSep_sep' Finset.univ (share (F := F)) (bundle m)).symm)
  isplitr [HB]
  · unfold share
    iapply (Entails.of_eq (bigSep_sep' Finset.univ (fun c : Dev nD => (atPos ER (barC c) 0 ∅ 0 : sProp 𝕄))
      (fun c : Dev nD => iprop((bigSep Finset.univ fun ks : Fin 4 × Fin 2 => openTok ER ((c : Thread nD τ), osem ks)) ∗ paysC c))).symm)
    isplitl [Hat]; · iapply hat $$ Hat
    iapply (Entails.of_eq (bigSep_sep' Finset.univ (fun c : Dev nD => (bigSep Finset.univ fun ks : Fin 4 × Fin 2 => (openTok ER ((c : Thread nD τ), osem ks) : sProp 𝕄)))
      (fun c : Dev nD => (paysC c : sProp 𝕄))).symm)
    isplitl [Hopen]; · iapply hop $$ Hopen
    iapply (toks_around (F := F))
    iapply (Entails.of_eq (toks_eq (F := F))) $$ Htok
  · iexact HB

/-! ## The run -/

theorem unscoped_eq : ∀ sm : SemLoc sig, sm.isScoped .tc = false → sm = .reg barS := by decide

/-- What a device ends with: its result, and its arguments as launched. -/
def Ends (c : Dev nD) (s : MemSt nD τ sig (Elt F)) : Prop :=
  (s.mem ((c.tc : Thread nD τ).loc main_v34) = res (V1 m) c)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

theorem Vend_arg (c : Dev nD) (r : Ref sig .tc) (h : r ∉ hostOps0_W) (h' : r ≠ main_v34) : Vend (V1 m) c (Proc.devRef .tc r) = m ((c.tc : Thread nD τ).loc r) :=
  (Vend_ne (V1 m) c _ (StableHlo.devRef_ne_of_ne h')).trans (V1_of m c r h)

theorem final (c : Dev nD) (s' : Phys nD τ sig (Elt F)) : iprop(Tlast m c ∗ SI s') ⊢ |={Set.univ}=> (iprop(⌜Ends m c s'.mem ∧ s'.mem.sem (barC c) = 0⌝ ∗ SI s') : sProp 𝕄) := by
  unfold Tlast StableHlo.held
  iintro ⟨⟨Hh, Hb0⟩, HSI⟩
  icombine HSI Hb0 gives %hb
  ihave Hr := (pointsTo_read_all (Pipeline.ucRefs τ sig) (fun b => ((c : Thread nD τ).1, b)) (Vend (V1 m) c) s') $$ [Hh HSI]
  · isplitl [Hh] <;> iassumption
  icases Hr with ⟨%h, HSI⟩
  imodintro
  isplitr
  · ipureintro
    exact ⟨⟨(h (Proc.devRef .tc main_v34) (Finset.mem_filter.mpr ⟨StableHlo.devRef_mem_tcRefs main_v34, by decide⟩)).trans (Vend_res (V1 m) c),
      (h (Proc.devRef .tc main_arg0) (Finset.mem_filter.mpr ⟨StableHlo.devRef_mem_tcRefs main_arg0, by decide⟩)).trans (Vend_arg m c main_arg0 (by decide) (by decide)),
      (h (Proc.devRef .tc main_arg1) (Finset.mem_filter.mpr ⟨StableHlo.devRef_mem_tcRefs main_arg1, by decide⟩)).trans (Vend_arg m c main_arg1 (by decide) (by decide)),
      (h (Proc.devRef .tc main_arg2) (Finset.mem_filter.mpr ⟨StableHlo.devRef_mem_tcRefs main_arg2, by decide⟩)).trans (Vend_arg m c main_arg2 (by decide) (by decide)),
      (h (Proc.devRef .tc main_arg3) (Finset.mem_filter.mpr ⟨StableHlo.devRef_mem_tcRefs main_arg3, by decide⟩)).trans (Vend_arg m c main_arg3 (by decide) (by decide))⟩,
      by simpa using hb⟩
  · iexact HSI

set_option backward.isDefEq.respectTransparency.types false in
/-- Every fair run of the program on the 32 devices ends, with every device's result as named, its arguments as launched, and every
    semaphore of the machine at zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats (V1 m)) 0 cellOf_inj EP defs₀ 𝒱₀ L lv m ρ main
    (segs m 𝒱₀ L lv (fun _ => ride (V1 m)) 0 (pdats (V1 m)) (reg0 (V1 m) (tabled m)))
    (fun c Q => by
      rewrite [main_chain c, Pipeline.Seg.run_eq_chain,
        show (segs m 𝒱₀ L lv (fun _ => ride (V1 m)) 0 (pdats (V1 m)) (reg0 (V1 m) (tabled m)) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀
      iintro Hu
      ihave H := (ownU_pair _ _) $$ Hu
      icases H with ⟨HP, HX⟩
      imodintro
      isplitl [HP]; · iexact HP
      rw [G_all]; iexact HX)
    (Tfirst m) (Tlast m)
    (fun c => ⟨.rfl, reg0_pre (V1 m) (tabled m) c, reg0_post (V1 m) (tabled m) c⟩)
    (init m ρ) (fun c s => Ends m c s ∧ s.sem (barC c) = 0) (final m)
    (fun s h hs => ⟨fun c => (h c).1, sem_eq_zero hs fun c sm hsm => by
      obtain rfl := unscoped_eq sm hsm
      exact (h c).2⟩)

end Cert.Hop
-- ==== Proof.Whole.lean ====
/-
What the reference leaves in its result: its one payload, of its whole arguments.
-/
module

public import proofs.«01_k».proof.Proof.Gen.ReferenceIdeal.Value
public import Idealize.ShloMosaic.Lib.Pipeline.ValueKit

@[expose] public section

noncomputable section

namespace Cert.Whole

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The only index of the one-element arrays. -/
def one : S1.Idx := fun a => ⟨0, by revert a; decide⟩

theorem one_eq (i : S1.Idx) : i = one := funext fun a => by
  obtain rfl : a = 0 := Subsingleton.elim _ _
  exact Subsingleton.elim (α := Fin 1) _ _

/-- The reference's result, of its arguments. -/
def whole (x : S1024x4096.Idx → Elt F .i32) (w : S4096x8192.Idx → Elt F .fp8e5m2) (sx sw : S1.Idx → Elt F .f32) : S4096x8192.Idx → Elt F .f32 :=
  k0_pay1 x w (sx one) (sw one)

theorem origin : (![0, 0] : Fin 2 → Nat) = fun _ => 0 := funext fun a => by fin_cases a <;> rfl

/-- What the body stores, from what it reads. -/
theorem out_eq (c : Dev nD) (arg0 : Memref sig .tc .vmem S1024x4096 .i32) (harg0 : arg0.IsWhole) (arg1 : Memref sig .tc .vmem S4096x8192 .fp8e5m2) (harg1 : arg1.IsWhole) (arg2 : Memref sig .tc .smem S1 .f32) (harg2 : arg2.IsWhole) (arg3 : Memref sig .tc .smem S1 .f32) (harg3 : arg3.IsWhole) (arg4 : Memref sig .tc .vmem S4096x8192 .f32) (harg4 : arg4.IsWhole)
    (x0 : Vec F S1024x4096 .i32) (x1 : Vec F S4096x8192 .fp8e5m2) (x2 : Vec F S1 .f32) (x3 : Vec F S1 .f32) :
    out0_A_4 c arg0 harg0 arg1 harg1 arg2 harg2 arg3 harg3 arg4 harg4 x0 x1 x2 x3 = whole x0 x1 x2 x3 := by
  unfold out0_A_4
  rw [View.read_writes_junk_eq_canon]
  unfold kernelRun0_A
  dsimp only
  sl_unfold_words
  refine (View.canon_unit_zero (Val := Elt F) (S := S4096x8192) origin inb_S4096x8192_S4096x8192_0_0 _).trans ?_
  unfold whole
  congr 1
  · simp only [View.readAt_eq_ld, harg0.read_unread]
    exact View.ld_unit_zero (Val := Elt F) (S := S1024x4096) origin inb_S1024x4096_S1024x4096_0_0 x0
  · simp only [View.readAt_eq_ld, harg1.read_unread]
    exact View.ld_unit_zero (Val := Elt F) (S := S4096x8192) origin inb_S4096x8192_S4096x8192_0_0 x1
  · simp only [View.readAt_eq_ld, harg2.read_unread]
    exact congrArg x2 (one_eq _)
  · simp only [View.readAt_eq_ld, harg3.read_unread]
    exact congrArg x3 (one_eq _)

/-! ## Each window stages its whole array -/

theorem block0 (c : Dev nD) : iblk m c 0 t0_0 = m ((c.tc : Thread nD τ).loc main_arg0) := by
  funext i
  show m ((c.tc : Thread nD τ).loc main_arg0) (((cfg0.win 0).blk t0_0).view.emb i) = m ((c.tc : Thread nD τ).loc main_arg0) i
  refine congrArg (m ((c.tc : Thread nD τ).loc main_arg0)) (funext fun a => Fin.ext ?_)
  match a with
  | ⟨0, _⟩ => show 0 * 1024 + 1 * (i 0).val = (i 0).val; omega
  | ⟨1, _⟩ => show 0 * 4096 + 1 * (i 1).val = (i 1).val; omega

theorem block1 (c : Dev nD) : iblk m c 1 t0_0 = m ((c.tc : Thread nD τ).loc main_arg1) := by
  funext i
  show m ((c.tc : Thread nD τ).loc main_arg1) (((cfg0.win 1).blk t0_0).view.emb i) = m ((c.tc : Thread nD τ).loc main_arg1) i
  refine congrArg (m ((c.tc : Thread nD τ).loc main_arg1)) (funext fun a => Fin.ext ?_)
  match a with
  | ⟨0, _⟩ => show 0 * 4096 + 1 * (i 0).val = (i 0).val; omega
  | ⟨1, _⟩ => show 0 * 8192 + 1 * (i 1).val = (i 1).val; omega

theorem block2 (c : Dev nD) : iblk m c 2 t0_0 = m ((c.tc : Thread nD τ).loc main_arg2) := by
  funext i
  show m ((c.tc : Thread nD τ).loc main_arg2) (((cfg0.win 2).blk t0_0).view.emb i) = m ((c.tc : Thread nD τ).loc main_arg2) i
  exact congrArg (m ((c.tc : Thread nD τ).loc main_arg2)) ((one_eq _).trans (one_eq _).symm)

theorem block3 (c : Dev nD) : iblk m c 3 t0_0 = m ((c.tc : Thread nD τ).loc main_arg3) := by
  funext i
  show m ((c.tc : Thread nD τ).loc main_arg3) (((cfg0.win 3).blk t0_0).view.emb i) = m ((c.tc : Thread nD τ).loc main_arg3) i
  exact congrArg (m ((c.tc : Thread nD τ).loc main_arg3)) ((one_eq _).trans (one_eq _).symm)

/-- The result's array at the end. -/
theorem arr_eq (c : Dev nD) : (dats m 0 c).arrAt (4 : Fin 5) cfg0.N
    = whole (m ((c.tc : Thread nD τ).loc main_arg0)) (m ((c.tc : Thread nD τ).loc main_arg1)) (m ((c.tc : Thread nD τ).loc main_arg2)) (m ((c.tc : Thread nD τ).loc main_arg3)) :=
  Dat.arrAt_eq_of_after_last (dats m 0 c) (4 : Fin 5) t0_0 (by decide +kernel) _ (fun j => by
    rw [after0_4]
    unfold outsAt0
    rw [out_eq, block0, block1, block2, block3]
    rfl)

/-- The reference's run: its result named, its arguments as launched. -/
theorem run : θ_run defs (onTc (τ := τ) (main (F := F))) ⟨m, fun _ => 0, ρ⟩ fun r => ∀ c : Dev nD,
      r.2.mem ((c.tc : Thread nD τ).loc main_v0) = whole (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (arr_eq m c), (h c).2⟩) (Value.run_blocks m ρ)

end Cert.Whole

end
-- ==== Proof.Value.lean ====
/-
The result of the 32 devices, read over the extended reals, is the reference's: each device holds its columns of it.
-/
module

public import proofs.«01_k».proof.Proof.Run
public import proofs.«01_k».proof.Proof.Whole
public import Idealize.ShloMosaic.Lib.Layout
public import Idealize.ShloMosaic.Lib.BitcastPair
public import Idealize.ShloMosaic.Lib.Pointwise.Contract

@[expose] public section

noncomputable section

namespace Cert.Val

open Idealize.ShloMosaic Idealize.ShloMosaic.TcCoe Idealize.SL.Sem

abbrev KX := Cert.KernelIdeal.S32x4096
abbrev KW := Cert.KernelIdeal.S4096x256
abbrev KT := Cert.KernelIdeal.S128x256
abbrev KR := Cert.KernelIdeal.S128x4096
abbrev WX := Cert.ReferenceIdeal.S1024x4096
abbrev WW := Cert.ReferenceIdeal.S4096x8192
abbrev WR := Cert.ReferenceIdeal.S4096x4096

theorem tilesX : Layout.Tiles KX WX 0 32 := by decide
theorem tilesW : Layout.Tiles KW WW 1 32 := by decide

/-! ## The rows of numbers in the packed words -/

/-- Word rows `32 d` to `32 d + 31` hold number rows `128 d` to `128 d + 127`: a device's rows are the whole array's. -/
theorem words (hK : KX.Bitcasts 32 KR 8) (hW : WX.Bitcasts 32 WR 8) (X : WX.Idx → BitVec 32) (d : Fin 32) (r : Fin 128) (k : Fin 4096) (R : Fin 4096) (hR : R.val = 128 * d.val + r.val) :
    bitcast KR 8 (Layout.block KX WX 0 32 d X tilesX) hK (ix2 r k)
      = bitcast WR 8 X hW (ix2 R k) := by
  apply BitVec.eq_of_getLsbD_eq
  intro q hq
  rw [bitcast_getLsbD _ _ _ q hq (by decide), bitcast_getLsbD _ _ _ q hq (by decide)]
  have hr : KR.row (ix2 r k) = r.val := rfl
  have hR' : WR.row (ix2 R k) = R.val := rfl
  congr 1
  · rw [Layout.block_apply]
    congr 1
    funext a
    apply Fin.ext
    match a with
    | ⟨0, h0⟩ =>
      refine (congrArg (d.val * 32 + ·) (hK.srcIdx_row (ix2 r k) _ _ (⟨0, by decide⟩ : Fin KX.rank) rfl)).trans ?_
      refine Eq.trans ?_ (hW.srcIdx_row (ix2 R k) _ _ (⟨0, h0⟩ : Fin WX.rank) rfl).symm
      show d.val * 32 + (KR.row (ix2 r k) * 8 + q) / 32 = (WR.row (ix2 R k) * 8 + q) / 32
      rw [hr, hR', hR]; omega
    | ⟨1, h1⟩ =>
      refine (hK.srcIdx_other (ix2 r k) ((KR.row (ix2 r k) * 8 + q) / 32) (fun a ha => (Nat.div_lt_iff_lt_mul (by decide)).2 (hK.pos_lt _ q hq a ha)) (⟨1, by decide⟩ : Fin KX.rank) (by show ¬ 1 + 2 = 2; omega)).trans ?_
      exact (hW.srcIdx_other (ix2 R k) _ _ (⟨1, h1⟩ : Fin WX.rank) (by show ¬ 1 + 2 = 2; omega)).symm
  · rw [hr, hR', hR]; omega

/-! ## The logistic product, element by element -/

section Any

variable {F : FTy → Type} [FloatOps F]

/-- A number multiplied by its own logistic, the exponent held to `[-60, 60]`. -/
def gate (y : F .f32) : F .f32 :=
  FloatOps.divf y (FloatOps.addf (FloatOps.ofBits .f32 0x3F800000#32)
    (FloatOps.exp (FloatOps.subf (FloatOps.ofBits .f32 0x00000000#32)
      (FloatOps.minimumf (FloatOps.ofBits .f32 0x42700000#32) (FloatOps.maximumf (FloatOps.ofBits .f32 0xC2700000#32) y)))))

theorem pay6_apply (hs : KW.ShapeCasts KW) (v : F .f32) (x : FVec F KR .fp8e5m2) (w : Vec F KW .fp8e5m2) (j : KT.Idx) :
    Cert.KernelIdeal.Gen.k0_pay6 v x w j
      = gate (FloatOps.mulf (matmul Cert.KernelIdeal.dot_S128x4096_S4096x256_S128x256_1_0_0_1_n_n none x
          (shapeCast KW w hs) (constant KT .f32 0x00000000#32) j) v) := rfl

theorem pay1_apply (hW : WX.Bitcasts 32 WR 8) (x : Vec F WX .i32) (w : Vec F WW .fp8e5m2) (a b : F .f32) (j : WW.Idx) :
    Cert.ReferenceIdeal.Gen.k0_pay1 x w a b j
      = gate (FloatOps.mulf (matmul Cert.ReferenceIdeal.dot_S4096x4096_S4096x8192_S4096x8192_1_0_0_1_n_n none
          (bitcastToFloat .fp8e5m2 (bitcast WR 8 x hW))
          w (constant WW .f32 0x00000000#32) j) (Scalar.mulf a b)) := rfl

end Any

/-! ## The products -/

theorem prodK (x : FVec Ideal KR .fp8e5m2) (w : FVec Ideal KW .fp8e5m2) (acc : FVec Ideal KT .f32) (j : KT.Idx) :
    matmul Cert.KernelIdeal.dot_S128x4096_S4096x256_S128x256_1_0_0_1_n_n none x w acc j
      = acc j + ∑ k : Fin 4096, x (ix2 (j 0) k) * w (ix2 k (j 1)) :=
  Ideal.matmul_apply₁_of (K := 4096) _ rfl rfl x w acc j (fun k => ix2 (j 0) k) (fun k => ix2 k (j 1))
    (fun k => by
      funext a
      apply Fin.ext
      match a with
      | ⟨0, _⟩ => rfl
      | ⟨1, _⟩ => rfl)
    (fun k => by
      funext a
      apply Fin.ext
      match a with
      | ⟨0, _⟩ => rfl
      | ⟨1, _⟩ => rfl)

theorem prodW (x : FVec Ideal WR .fp8e5m2) (w : FVec Ideal WW .fp8e5m2) (acc : FVec Ideal WW .f32) (j : WW.Idx) :
    matmul Cert.ReferenceIdeal.dot_S4096x4096_S4096x8192_S4096x8192_1_0_0_1_n_n none x w acc j
      = acc j + ∑ k : Fin 4096, x (ix2 (j 0) k) * w (ix2 k (j 1)) :=
  Ideal.matmul_apply₁_of (K := 4096) _ rfl rfl x w acc j (fun k => ix2 (j 0) k) (fun k => ix2 k (j 1))
    (fun k => by
      funext a
      apply Fin.ext
      match a with
      | ⟨0, _⟩ => rfl
      | ⟨1, _⟩ => rfl)
    (fun k => by
      funext a
      apply Fin.ext
      match a with
      | ⟨0, _⟩ => rfl
      | ⟨1, _⟩ => rfl)

/-- One element of a device's result is the reference's element at its place. -/
theorem tile_whole (X : WX.Idx → Elt Ideal .i32) (W : WW.Idx → Elt Ideal .fp8e5m2) (sx sw : Cert.ReferenceIdeal.S1.Idx → Elt Ideal .f32)
    (c : Fin 32) (i : KW.Idx) :
    Cert.Hop.tile (F := Ideal) (Scalar.mulf (sx Cert.Whole.one) (sw Cert.Whole.one)) (Layout.block KX WX 0 32 (Cert.Hop.rowDev i) X tilesX)
        (Layout.block KW WW 1 32 c W tilesW) (Cert.Hop.inBlk i)
      = Layout.block KW WW 1 32 c (Cert.Whole.whole X W sx sw) tilesW i := by
  rw [Layout.block_apply]
  unfold Cert.Hop.tile Cert.Whole.whole Cert.Hop.rows
  rw [pay6_apply (by decide), pay1_apply (by decide), shapeCast_self, prodK, prodW]
  refine congrArg (fun y => gate (FloatOps.mulf y _)) ?_
  refine congrArg₂ (· + ·) rfl (Finset.sum_congr rfl fun k _ => congrArg₂ (· * ·) ?_ ?_)
  · refine congrArg (FloatOps.ofBits (F := Ideal) .fp8e5m2) ?_
    refine words _ _ X (Cert.Hop.rowDev i) (Cert.Hop.inBlk i 0) k _ ?_
    show (i 0).val = 128 * ((i 0).val / 128) + (i 0).val % 128
    omega
  · rw [Layout.block_apply]
    refine congrArg W (funext fun a => Fin.ext ?_)
    match a with
    | ⟨0, _⟩ => rfl
    | ⟨1, _⟩ => rfl

end Cert.Val

end
-- ==== Proof.lean ====
/-
The claims: the device program ends, at rest, with its arguments as launched, read over bits and over the extended reals; so does the
reference; and over the extended reals the devices' results are the reference's, each device holding its columns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Run
public import proofs.«01_k».proof.Proof.Whole
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

set_option maxHeartbeats 0 in
/-- The device program over bits: the two printings are one program, and its run is the one run, read at bits. -/
theorem frame_kernel : Cert.quiescent_Kernel (hKernel := Cert.Kernel.Gen.facts) := fun m ρ _ => by
  rw [Cert.Same.defs_eq, Cert.Same.main_eq]
  exact (θ_run Cert.KernelIdeal.defs _ _).mono (fun _ h => ⟨fun c => (h.1 c).2, h.2⟩) (Cert.Hop.run_main (F := Bits) m ρ)

/-- The device program over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.Hop.run_main (F := Ideal) m ρ)

/-- The reference. -/
theorem frame_reference : Cert.quiescent_ReferenceIdeal (hReferenceIdeal := Cert.ReferenceIdeal.Gen.facts) := fun m ρ _ =>
  Cert.ReferenceIdeal.Gen.frame m ρ

/-- The arguments as the region finds them are those the program was launched with. -/
theorem found (m : (ℓ : Loc Cert.KernelIdeal.nD Cert.KernelIdeal.τ Cert.KernelIdeal.sig) → Buf (Elt Ideal) ℓ) (c : Dev Cert.KernelIdeal.nD)
    (r : Ref Cert.KernelIdeal.sig .tc) (h : r ∉ Cert.KernelIdeal.Gen.hostOps0_W) :
    Cert.KernelIdeal.Gen.V1 m c r = m ((c.tc : Thread Cert.KernelIdeal.nD Cert.KernelIdeal.τ).loc r) := Cert.KernelIdeal.Gen.V1_of m c r h

/-- Over the extended reals, each device's result is its columns of the reference's. -/
theorem value : Cert.algebraic_KernelIdeal_ReferenceIdeal (hKernelIdeal := Cert.KernelIdeal.Gen.facts) (hReferenceIdeal := Cert.ReferenceIdeal.Gen.facts) := by
  intro m ρ m' ρ' _ hargs
  refine ⟨Cert.Whole.whole _ _ _ _, (θ_run Cert.KernelIdeal.defs _ _).mono (fun r h c => ⟨(h.1 c).1.trans ?_, (h.1 c).2⟩)
    (Cert.Hop.run_main (F := Ideal) m ρ), (θ_run Cert.ReferenceIdeal.defs _ _).mono (fun r h => h 0) (Cert.Whole.run (F := Ideal) m' ρ')⟩
  funext i
  have hX : Cert.Hop.kX (Cert.KernelIdeal.Gen.V1 m) (Cert.Hop.rowDev i) = _ := (found m _ Cert.KernelIdeal.main_arg0 (by decide)).trans (hargs _).1
  have hW : Cert.Hop.kW (Cert.KernelIdeal.Gen.V1 m) c = _ := (found m c Cert.KernelIdeal.main_arg1 (by decide)).trans (hargs c).2.1
  have hx : Cert.Hop.kSx (Cert.KernelIdeal.Gen.V1 m) c = _ := (found m c Cert.KernelIdeal.main_arg2 (by decide)).trans (hargs c).2.2.1
  have hw : Cert.Hop.kSw (Cert.KernelIdeal.Gen.V1 m) c = _ := (found m c Cert.KernelIdeal.main_arg3 (by decide)).trans (hargs c).2.2.2
  show Cert.Hop.tile (Cert.Hop.kSc (Cert.KernelIdeal.Gen.V1 m) c) (Cert.Hop.kX (Cert.KernelIdeal.Gen.V1 m) (Cert.Hop.rowDev i))
    (Cert.Hop.kW (Cert.KernelIdeal.Gen.V1 m) c) (Cert.Hop.inBlk i) = _
  unfold Cert.Hop.kSc
  rw [hX, hW, hx, hw]
  exact Cert.Val.tile_whole _ _ _ _ c i

theorem claim : Cert.Claim := ⟨Cert.Kernel.Gen.facts, Cert.KernelIdeal.Gen.facts, Cert.ReferenceIdeal.Gen.facts,
  frame_kernel, frame_kernelIdeal, frame_reference, trivial, value⟩

end Cert.Proof

end
